-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![64, 128, 256]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x64 : Shape := ⟨2, ![128, 64]⟩
abbrev S256x1 : Shape := ⟨2, ![256, 1]⟩
abbrev S2x128x256 : Shape := ⟨3, ![2, 128, 256]⟩
abbrev S128x256 : Shape := ⟨2, ![128, 256]⟩
abbrev S256x256 : Shape := ⟨2, ![256, 256]⟩
abbrev S6x256x128 : Shape := ⟨3, ![6, 256, 128]⟩
abbrev S5x256x128 : Shape := ⟨3, ![5, 256, 128]⟩
abbrev S5 : Shape := ⟨1, ![5]⟩
abbrev S_ : Shape := ⟨0, ![]⟩
abbrev S256x64 : Shape := ⟨2, ![256, 64]⟩
abbrev S256 : Shape := ⟨1, ![256]⟩
abbrev S1x128x256 : Shape := ⟨3, ![1, 128, 256]⟩
abbrev S1x256x128 : Shape := ⟨3, ![1, 256, 128]⟩
abbrev S1 : Shape := ⟨1, ![1]⟩

abbrev nBuf : Space → Nat
  | .hbm => 6
  | .vmem => 10
  | .smem => 0
  | _ => 0

abbrev bufTy : (tb : Table) → Fin (tcTables nBuf tb) → BufTy
  | .hbm, ⟨0, _⟩ => ⟨S256x128, .bf16⟩
  | .hbm, ⟨1, _⟩ => ⟨S128x64, .bf16⟩
  | .hbm, ⟨2, _⟩ => ⟨S256x1, .i32⟩
  | .hbm, ⟨3, _⟩ => ⟨S2x128x256, .bf16⟩
  | .hbm, ⟨4, _⟩ => ⟨S128x256, .bf16⟩
  | .hbm, ⟨5, _⟩ => ⟨S256x256, .f32⟩
  | .local _ .vmem, ⟨0, _⟩ => ⟨S256x128, .bf16⟩
  | .local _ .vmem, ⟨1, _⟩ => ⟨S128x64, .bf16⟩
  | .local _ .vmem, ⟨2, _⟩ => ⟨S256x1, .i32⟩
  | .local _ .vmem, ⟨3, _⟩ => ⟨S2x128x256, .bf16⟩
  | .local _ .vmem, ⟨4, _⟩ => ⟨S128x256, .bf16⟩
  | .local _ .vmem, ⟨5, _⟩ => ⟨S256x256, .f32⟩
  | .local _ .vmem, ⟨6, _⟩ => ⟨S6x256x128, .bf16⟩
  | .local _ .vmem, ⟨7, _⟩ => ⟨S6x256x128, .bf16⟩
  | .local _ .vmem, ⟨8, _⟩ => ⟨S5x256x128, .bf16⟩
  | .local _ .vmem, ⟨9, _⟩ => ⟨S5x256x128, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v10 : BitVec 32 := Scalar.xori v2 c8_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_43 : BitVec 32 := 1#32
  let v78 : BitVec 32 := Scalar.xori v2 c1_i32_43
  let c1_i32_49 : BitVec 32 := 1#32
  let v80 : BitVec 32 := Scalar.muli v78 c1_i32_49
  let v81 : BitVec 32 := Scalar.addi c0_i32_50 v80
  v81.toNat
def k0_dev7 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_44 : BitVec 32 := 3#32
  let v79 : BitVec 32 := Scalar.xori v2 c3_i32_44
  let c1_i32_59 : BitVec 32 := 1#32
  let v90 : BitVec 32 := Scalar.muli v79 c1_i32_59
  let v91 : BitVec 32 := Scalar.addi c0_i32_60 v90
  v91.toNat
def k0_dev8 (d0 : Dev nD) : Nat :=
  let c0_i32_113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_106 : BitVec 32 := 3#32
  let v135 : BitVec 32 := Scalar.xori v2 c3_i32_106
  let c1_i32_112 : BitVec 32 := 1#32
  let v137 : BitVec 32 := Scalar.muli v135 c1_i32_112
  let v138 : BitVec 32 := Scalar.addi c0_i32_113 v137
  v138.toNat
def k0_dev9 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_107 : BitVec 32 := 8#32
  let v136 : BitVec 32 := Scalar.xori v2 c8_i32_107
  let c1_i32_122 : BitVec 32 := 1#32
  let v147 : BitVec 32 := Scalar.muli v136 c1_i32_122
  let v148 : BitVec 32 := Scalar.addi c0_i32_123 v147
  v148.toNat
def k0_dev10 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_165 : BitVec 32 := 8#32
  let v189 : BitVec 32 := Scalar.xori v2 c8_i32_165
  let c1_i32_171 : BitVec 32 := 1#32
  let v191 : BitVec 32 := Scalar.muli v189 c1_i32_171
  let v192 : BitVec 32 := Scalar.addi c0_i32_172 v191
  v192.toNat
def k0_dev11 (d0 : Dev nD) : Nat :=
  let c0_i32_182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_166 : BitVec 32 := 1#32
  let v190 : BitVec 32 := Scalar.xori v2 c1_i32_166
  let c1_i32_181 : BitVec 32 := 1#32
  let v201 : BitVec 32 := Scalar.muli v190 c1_i32_181
  let v202 : BitVec 32 := Scalar.addi c0_i32_182 v201
  v202.toNat
def k0_dev12 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_224 : BitVec 32 := 4#32
  let v243 : BitVec 32 := Scalar.xori v2 c4_i32_224
  let c1_i32_230 : BitVec 32 := 1#32
  let v245 : BitVec 32 := Scalar.muli v243 c1_i32_230
  let v246 : BitVec 32 := Scalar.addi c0_i32_231 v245
  v246.toNat
def k0_dev13 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_225 : BitVec 32 := 16#32
  let v244 : BitVec 32 := Scalar.xori v2 c16_i32_225
  let c1_i32_240 : BitVec 32 := 1#32
  let v255 : BitVec 32 := Scalar.muli v244 c1_i32_240
  let v256 : BitVec 32 := Scalar.addi c0_i32_241 v255
  v256.toNat
def k0_dev14 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_283 : BitVec 32 := 16#32
  let v297 : BitVec 32 := Scalar.xori v2 c16_i32_283
  let c1_i32_289 : BitVec 32 := 1#32
  let v299 : BitVec 32 := Scalar.muli v297 c1_i32_289
  let v300 : BitVec 32 := Scalar.addi c0_i32_290 v299
  v300.toNat
def k0_dev15 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_284 : BitVec 32 := 4#32
  let v298 : BitVec 32 := Scalar.xori v2 c4_i32_284
  let c1_i32_299 : BitVec 32 := 1#32
  let v309 : BitVec 32 := Scalar.muli v298 c1_i32_299
  let v310 : BitVec 32 := Scalar.addi c0_i32_300 v309
  v310.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S256x128 : Shape := ⟨2, ![256, 128]⟩
abbrev S128x64 : Shape := ⟨2, ![128, 64]⟩
abbrev S256x1 : Shape := ⟨2, ![256, 1]⟩
abbrev S64x128x256 : Shape := ⟨3, ![64, 128, 256]⟩
abbrev S128x256 : Shape := ⟨2, ![128, 256]⟩
abbrev S256x64 : Shape := ⟨2, ![256, 64]⟩
abbrev S_ : Shape := ⟨0, ![]⟩
abbrev S256 : Shape := ⟨1, ![256]⟩
abbrev S256x256 : Shape := ⟨2, ![256, 256]⟩
abbrev S256x2 : Shape := ⟨2, ![256, 2]⟩
abbrev S256x128x256 : Shape := ⟨3, ![256, 128, 256]⟩

abbrev nBuf : Space → Nat
  | .hbm => 69
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x64, .bf16⟩
  | .hbm, ⟨2, _⟩ => ⟨S256x1, .i32⟩
  | .hbm, ⟨3, _⟩ => ⟨S64x128x256, .bf16⟩
  | .hbm, ⟨4, _⟩ => ⟨S128x256, .bf16⟩
  | .hbm, ⟨5, _⟩ => ⟨S256x128, .f32⟩
  | .hbm, ⟨6, _⟩ => ⟨S128x64, .f32⟩
  | .hbm, ⟨7, _⟩ => ⟨S64x128x256, .f32⟩
  | .hbm, ⟨8, _⟩ => ⟨S128x256, .f32⟩
  | .hbm, ⟨9, _⟩ => ⟨S256x64, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S256x64, .f32⟩
  | .hbm, ⟨14, _⟩ => ⟨S256x64, .f32⟩
  | .hbm, ⟨15, _⟩ => ⟨S256x64, .f32⟩
  | .hbm, ⟨16, _⟩ => ⟨S_, .f32⟩
  | .hbm, ⟨17, _⟩ => ⟨S256, .f32⟩
  | .hbm, ⟨18, _⟩ => ⟨S256x1, .f32⟩
  | .hbm, ⟨19, _⟩ => ⟨S256x64, .f32⟩
  | .hbm, ⟨20, _⟩ => ⟨S256x64, .f32⟩
  | .hbm, ⟨21, _⟩ => ⟨S256x256, .f32⟩
  | .hbm, ⟨22, _⟩ => ⟨S256, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S_, .i32⟩
  | .hbm, ⟨32, _⟩ => ⟨S256, .i32⟩
  | .hbm, ⟨33, _⟩ => ⟨S256, .i1⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S256x1, .i32⟩
  | .hbm, ⟨39, _⟩ => ⟨S256x1, .i32⟩
  | .hbm, ⟨40, _⟩ => ⟨S256x2, .i32⟩
  | .hbm, ⟨41, _⟩ => ⟨S256, .f32⟩
  | .hbm, ⟨42, _⟩ => ⟨S_, .i32⟩
  | .hbm, ⟨43, _⟩ => ⟨S256, .i32⟩
  | .hbm, ⟨44, _⟩ => ⟨S256, .i1⟩
  | .hbm, ⟨45, _⟩ => ⟨S_, .i32⟩
  | .hbm, ⟨46, _⟩ => ⟨S256, .i32⟩
  | .hbm, ⟨47, _⟩ => ⟨S256, .i32⟩
  | .hbm, ⟨48, _⟩ => ⟨S256, .i32⟩
  | .hbm, ⟨49, _⟩ => ⟨S256x1, .i32⟩
  | .hbm, ⟨50, _⟩ => ⟨S256x128x256, .f32⟩
  | .hbm, ⟨51, _⟩ => ⟨S256x256, .f32⟩
  | .hbm, ⟨52, _⟩ => ⟨S_, .i32⟩
  | .hbm, ⟨53, _⟩ => ⟨S256, .i32⟩
  | .hbm, ⟨54, _⟩ => ⟨S256, .i1⟩
  | .hbm, ⟨55, _⟩ => ⟨S_, .i32⟩
  | .hbm, ⟨56, _⟩ => ⟨S256, .i32⟩
  | .hbm, ⟨57, _⟩ => ⟨S256, .i1⟩
  | .hbm, ⟨58, _⟩ => ⟨S256, .i1⟩
  | .hbm, ⟨59, _⟩ => ⟨S256x1, .i1⟩
  | .hbm, ⟨60, _⟩ => ⟨S256x1, .f32⟩
  | .hbm, ⟨61, _⟩ => ⟨S256x256, .f32⟩
  | .hbm, ⟨62, _⟩ => ⟨S256x256, .f32⟩
  | .hbm, ⟨63, _⟩ => ⟨S_, .f32⟩
  | .hbm, ⟨64, _⟩ => ⟨S_, .f32⟩
  | .hbm, ⟨65, _⟩ => ⟨S256x256, .i1⟩
  | .hbm, ⟨66, _⟩ => ⟨S256x256, .f32⟩
  | .hbm, ⟨67, _⟩ => ⟨S256x256, .f32⟩
  | .hbm, ⟨68, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Proof.Slots.lean ====
/-
# The slots of the accumulator and landing buffers

A stage of the all-reduce works on one `256 x 128` slot of a buffer of five or six such slots. The kernel reaches a slot
two ways: a transfer names the slice squeezed to rank 2, a load or a store goes through the buffer at the slot's
rectangle. This module fixes one way of holding a slot — `owns` at a rank-2 value — and gives for it the load, the store,
the splitting of a whole buffer into its slots and the way back.
-/
module

public import proofs.«01_k».proof.Proof.Gen.KernelIdeal
public import Idealize.ShloMosaic.Lib.Pipeline.Kit
public import Idealize.ShloMosaic.Lib.Pipeline.Value
public import Idealize.ShloMosaic.Lib.Pipeline.ValueKit
public import Idealize.ShloMosaic.Lib.MemrefSat
public import Idealize.ShloMosaic.Lib.Tactic

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duties of the protocol are named by numbers below five; the ghost state is the pipeline's beside the protocol's. -/
abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## One slot of a buffer of `K` slots -/

/-- A buffer of `K` slots. -/
abbrev SK (K : ℕ) : Shape := ⟨3, ![K, 256, 128]⟩

/-- Slot `k` lies inside the buffer. -/
abbrev InSlot (K k : ℕ) : Prop := ∀ a, (![k, 0, 0] : Fin 3 → Nat) a + S1x256x128.size a ≤ (SK K).size a

theorem inSlot {K k : ℕ} (h : k < K) : InSlot K k := fun a => by
  fin_cases a
  · show k + 1 ≤ K; exact h
  · exact le_refl 256
  · exact le_refl 128

/-- The rectangle of slot `k`. -/
abbrev slotR {K : ℕ} (k : ℕ) (h : InSlot K k) : Rect (SK K) := Rect.unit (s := SK K) ![k, 0, 0] S1x256x128.size h

/-- Slot `k` of a buffer, as the transfers name it. -/
abbrev slot {K : ℕ} (M : Memref sig .tc .vmem (SK K) .bf16) (k : ℕ) (h : InSlot K k) : Memref sig .tc .vmem S256x128 .bf16 :=
  (M.slice (slotR k h) (fun _ => rfl)).squeeze S256x128 squeezes_S1x256x128_S256x128

/-- The value of a slot as a load reads it, with a leading axis of extent one; and back. -/
def lift1 (V : Vec F S256x128 .bf16) : Vec F S1x256x128 .bf16 := shapeCast S1x256x128 V shapeCasts_S256x128_S1x256x128
def drop1 (W : Vec F S1x256x128 .bf16) : Vec F S256x128 .bf16 := shapeCast S256x128 W shapeCasts_S1x256x128_S256x128

theorem drop1_lift1 (V : Vec F S256x128 .bf16) : drop1 (lift1 V) = V := shapeCast_shapeCast V _ _
theorem lift1_drop1 (W : Vec F S1x256x128 .bf16) : lift1 (drop1 W) = W := shapeCast_shapeCast W _ _

section Slot

variable {K : ℕ} (M : Memref sig .tc .vmem (SK K) .bf16) (k : ℕ) (h : InSlot K k)

theorem slot_set : (slot M k h).view.set = (M.access (slotR k h)).set := View.set_reshape _ _

/-- A slot reads as its rectangle's load without the leading axis. -/
theorem slot_read (f : M.view.ty.Contents (Elt F)) :
    (slot M k h).view.read (Elt F) f = drop1 ((M.access (slotR k h)).read (Elt F) f) := rfl

/-- A slot written by a store through its rectangle reads as the stored value without the leading axis. -/
theorem slot_read_store (f : M.view.ty.Contents (Elt F)) (w : Vec F S1x256x128 .bf16) :
    (slot M k h).view.read (Elt F) ((M.access (slotR k h)).write (Elt F) f w Finset.univ) = drop1 w := by
  rw [slot_read, View.read_write_univ]

variable {defs : Defs nD τ sig (Elt F) Λ₀} (𝒱 : Variants) (c : Dev nD)

/-- A load of a slot held at `V`. -/
theorem wp_slot_load {α : Type} {q : PosShare TreeShare} {V : Vec F S256x128 .bf16} {hl : M.view.LoadsAt (slotR k h).toLoadRect}
    {g : Vec F S1x256x128 .bf16 → Prog (TpuEff nD τ sig (Elt F) Λ₀ .tc) α} {Q : α → sProp 𝕄} :
    (owns (c : Thread nD τ) (slot M k h) q V : sProp 𝕄)
      ⊢ iprop((owns (c : Thread nD τ) (slot M k h) q V -∗ wp frame (wpE defs 𝒱 c none) Set.univ (g (lift1 V)) Q)
          -∗ wp frame (wpE defs 𝒱 c none) Set.univ (.op (.load M (slotR k h).toLoadRect hl) g) Q) := by
  unfold owns
  iintro ⟨%f, %hf, H⟩ Hk
  ihave H' := (Entails.of_eq (show ((slot M k h).view.loc (c : Thread nD τ) ↦[(slot M k h).view.set]{q} f : sProp 𝕄)
    = ((M.access (slotR k h)).loc (c : Thread nD τ) ↦[(M.access (slotR k h)).set]{q} f) from by rw [slot_set])) $$ H
  iapply (wp_load_rect 𝒱 (c : Thread nD τ) none Set.univ (m := M) (r := slotR k h) (subset_refl _)) $$ H'
  iintro H'
  rw [show (M.access (slotR k h)).read (Elt F) f = lift1 V from by
    rw [← hf, slot_read]; exact (lift1_drop1 _).symm]
  iapply Hk
  iexists f
  isplitr; · ipureintro; exact hf
  rw [slot_set]; iexact H'

/-- A store into a slot held whole. -/
theorem wp_slot_store {α : Type} {V : Vec F S256x128 .bf16} {w : Vec F S1x256x128 .bf16} {hx : (M.access (slotR k h)).Stores Finset.univ}
    {hm : (Finset.univ : Finset (slotR k h).shape.Idx) = Finset.univ ∨ ∀ a, (slotR k h).stride a = 1}
    {g : PUnit → Prog (TpuEff nD τ sig (Elt F) Λ₀ .tc) α} {Q : α → sProp 𝕄} :
    (owns (c : Thread nD τ) (slot M k h) fullShare V : sProp 𝕄)
      ⊢ iprop((owns (c : Thread nD τ) (slot M k h) fullShare (drop1 w) -∗ wp frame (wpE defs 𝒱 c none) Set.univ (g ⟨⟩) Q)
          -∗ wp frame (wpE defs 𝒱 c none) Set.univ (.op (.store M (slotR k h) w Finset.univ hx hm) g) Q) := by
  unfold owns
  iintro ⟨%f, %hf, H⟩ Hk
  ihave H' := (Entails.of_eq (show ((slot M k h).view.loc (c : Thread nD τ) ↦[(slot M k h).view.set]{fullShare} f : sProp 𝕄)
    = ((M.access (slotR k h)).loc (c : Thread nD τ) ↦[(M.access (slotR k h)).set]{fullShare} f) from by rw [slot_set])) $$ H
  iapply (wp_store 𝒱 (c : Thread nD τ) none Set.univ (m := M) (r := slotR k h) (Mk := Finset.univ)
    (by rw [View.setOn_univ])) $$ H'
  iintro H'
  iapply Hk
  iexists _
  isplitr
  · ipureintro; exact slot_read_store M k h f w
  rw [slot_set]; iexact H'

end Slot

/-! ## A whole buffer and its slots -/

section Split

variable {K : ℕ} (c : Dev nD) (M : Memref sig .tc .vmem (SK K) .bf16)

theorem slots_disjoint (t t' : Fin K) (hne : t ≠ t') :
    Disjoint (slotR (K := K) t.val (inSlot t.isLt)).set (slotR (K := K) t'.val (inSlot t'.isLt)).set :=
  Rect.unit_disjoint (0 : Fin 3) (by
    show t.val + 1 ≤ t'.val ∨ t'.val + 1 ≤ t.val
    have : t.val ≠ t'.val := fun e => hne (Fin.ext e)
    omega)

theorem slots_cover : (Finset.univ : Finset (Fin K)).biUnion (fun t => (slotR (K := K) t.val (inSlot t.isLt)).set) = Finset.univ := by
  refine Finset.eq_univ_iff_forall.mpr fun x => ?_
  refine Finset.mem_biUnion.mpr ⟨x (0 : Fin 3), Finset.mem_univ _, ?_⟩
  refine Rect.mem_set_unit.mpr fun a => ?_
  fin_cases a
  · exact ⟨le_refl _, Nat.lt_succ_self _⟩
  · exact ⟨Nat.zero_le _, by have := (x (1 : Fin 3)).isLt; simpa using this⟩
  · exact ⟨Nat.zero_le _, by have := (x (2 : Fin 3)).isLt; simpa using this⟩

theorem slot_of_slice (k : ℕ) (h : InSlot K k) (X : Vec F S1x256x128 .bf16) :
    (owns (c : Thread nD τ) (M.slice (slotR k h) (fun _ => rfl)) fullShare X : sProp 𝕄) ⊢ owns (c : Thread nD τ) (slot M k h) fullShare (drop1 X) := by
  unfold owns
  iintro ⟨%f, %hf, H⟩
  iexists f
  isplitr; · ipureintro; rw [← hf]; rfl
  rw [slot_set]; iexact H

theorem slice_of_slot (k : ℕ) (h : InSlot K k) (V : Vec F S256x128 .bf16) :
    (owns (c : Thread nD τ) (slot M k h) fullShare V : sProp 𝕄) ⊢ owns (c : Thread nD τ) (M.slice (slotR k h) (fun _ => rfl)) fullShare (lift1 V) := by
  unfold owns
  iintro ⟨%f, %hf, H⟩
  iexists f
  isplitr
  · ipureintro; rw [← hf, slot_read]; exact (lift1_drop1 _).symm
  rw [slot_set]; iexact H

/-- A buffer held whole is each of its slots held at some value. -/
theorem slots_split (X : (SK K).Idx → Elt F .bf16) :
    (owns (c : Thread nD τ) M fullShare X : sProp 𝕄)
      ⊢ bigSep Finset.univ fun t : Fin K => iprop(∃ V, owns (c : Thread nD τ) (slot M t.val (inSlot t.isLt)) fullShare V) :=
  (owns_rects (c : Thread nD τ) M fullShare (fun t : Fin K => slotR t.val (inSlot t.isLt)) (fun _ _ => rfl) slots_disjoint slots_cover X).trans
    (bigSep_mono fun t _ => (slot_of_slice c M t.val (inSlot t.isLt) _).trans (by iintro H; iexists _; iexact H))

/-- The index of a buffer's element inside its slot. -/
def inner (j : (SK K).Idx) : S1x256x128.Idx := fun a => ⟨(![0, (j (1 : Fin 3)).val, (j (2 : Fin 3)).val] : Fin 3 → ℕ) a, by
  fin_cases a
  · exact Nat.one_pos
  · exact (j (1 : Fin 3)).isLt
  · exact (j (2 : Fin 3)).isLt⟩

theorem slots_join_at (V : Fin K → Vec F S256x128 .bf16) :
    (bigSep Finset.univ fun t : Fin K => owns (c : Thread nD τ) (slot M t.val (inSlot t.isLt)) fullShare (V t) : sProp 𝕄)
      ⊢ owns (c : Thread nD τ) M fullShare (fun j => lift1 (V (j (0 : Fin 3))) (inner j)) := by
  haveI : ∀ e, Nonempty (Elt F e) := fun e => inferInstance
  refine (bigSep_mono fun t _ => (slice_of_slot c M t.val (inSlot t.isLt) (V t)).trans (Entails.of_eq (congrArg _ ?_))).trans
    (owns_of_rects (c : Thread nD τ) M fullShare (fun t : Fin K => slotR t.val (inSlot t.isLt)) (fun _ _ => rfl) slots_disjoint slots_cover _)
  funext i
  have hi : (i (0 : Fin 3)).val < 1 := (i (0 : Fin 3)).isLt
  have h0 : (slotR (K := K) t.val (inSlot t.isLt)).emb i (0 : Fin 3) = t := Fin.ext (by
    rw [ValueKit.rect_emb_unit_val]; show t.val + (i (0 : Fin 3)).val = t.val; omega)
  show _ = lift1 (V ((slotR (K := K) t.val (inSlot t.isLt)).emb i (0 : Fin 3))) _
  rw [h0]
  refine congrArg _ (funext fun a => Fin.ext ?_)
  fin_cases a
  · show (i (0 : Fin 3)).val = 0; omega
  · show _ = ((slotR (K := K) t.val (inSlot t.isLt)).emb i (1 : Fin 3)).val
    rw [ValueKit.rect_emb_unit_val]; exact (Nat.zero_add _).symm
  · show _ = ((slotR (K := K) t.val (inSlot t.isLt)).emb i (2 : Fin 3)).val
    rw [ValueKit.rect_emb_unit_val]; exact (Nat.zero_add _).symm

/-- and back. -/
theorem slots_join :
    (bigSep Finset.univ fun t : Fin K => iprop(∃ V, owns (c : Thread nD τ) (slot M t.val (inSlot t.isLt)) fullShare V))
      ⊢ (iprop(∃ X, owns (c : Thread nD τ) M fullShare X) : sProp 𝕄) := by
  haveI : ∀ e, Nonempty (Elt F e) := fun e => inferInstance
  haveI : Nonempty (S256x128.Idx → Elt F EltTy.bf16) := ⟨fun _ => Classical.arbitrary _⟩
  haveI : ∀ i : Fin K, Nonempty (S256x128.Idx → Elt F EltTy.bf16) := fun _ => inferInstance
  refine (bigSep_exists_pi Finset.univ (fun (t : Fin K) V => owns (c : Thread nD τ) (slot M t.val (inSlot t.isLt)) fullShare V)).trans ?_
  iintro ⟨%V, H⟩
  iexists _
  iapply (slots_join_at c M V) $$ H

end Split

end Cert.MoeProof

end
-- ==== Proof.Values.lean ====
/-
# The values one run of the kernel computes

Device `c` multiplies its rows by its two experts, weighs the products by the gate where the row is routed to the expert,
rounds the sum to 16 bits and keeps it as two halves of 128 columns. Each half then passes five stages: at stage `s` the
device adds to what it holds what its partner of that stage holds, the partner's number differing from its own by a mask.
The two halves take the same five masks in different orders. This module names the devices met, the partial sums, and the
result the kernel writes.
-/
module

public import proofs.«01_k».proof.Proof.Slots
public import proofs.«01_k».proof.Proof.Gen.KernelIdeal.Skeleton
public import proofs.«01_k».proof.Proof.Gen.KernelIdeal.Launch
public import proofs.«01_k».proof.Proof.Gen.KernelIdeal.Frame

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

/-! ## Partners -/

/-- The mask of stage `s`: of the left half (`false`), of the right half (`true`). -/
def mask (h : Bool) (s : ℕ) : ℕ := (if h then [3, 8, 1, 16, 4] else [1, 3, 8, 4, 16]).getD s 0

theorem mask_lt (h : Bool) (s : ℕ) : mask h s < 32 := by
  cases h <;> rcases s with _ | _ | _ | _ | _ | s <;> first | decide | (simp [mask])

set_option backward.proofsInPublic true in
/-- The device whose number differs from `c`'s by the mask of stage `s`. -/
def peer (h : Bool) (s : ℕ) (c : Dev nD) : Dev nD :=
  ⟨c.val ^^^ mask h s, Nat.xor_lt_two_pow (n := 5) c.isLt (mask_lt h s)⟩

theorem peer_peer (h : Bool) (s : ℕ) (c : Dev nD) : peer h s (peer h s c) = c :=
  Fin.ext (by show (c.val ^^^ mask h s) ^^^ mask h s = c.val; rw [Nat.xor_assoc, Nat.xor_self, Nat.xor_zero])

/-- Meeting one's partner is an involution of the devices. -/
def peerEquiv (h : Bool) (s : ℕ) : Dev nD ≃ Dev nD := ⟨peer h s, peer h s, peer_peer h s, peer_peer h s⟩

/-- The stage at which the right half meets the partner the left half meets at stage `d`. -/
def sig5 : Fin 5 → Fin 5 := ![2, 0, 1, 4, 3]

theorem peer_sig (d : Fin 5) (c : Dev nD) : peer true (sig5 d).val c = peer false d.val c := by revert d c; decide

/-! ## The blocks a device reads -/

/-- Its activations, router weights, routing, two experts, shared expert: the blocks staged for it. -/
def X0 (c : Dev nD) : Vec F S256x128 .bf16 := iblk m c 0 t0_0
def X1 (c : Dev nD) : Vec F S128x64 .bf16 := iblk m c 1 t0_0
def X2 (c : Dev nD) : Vec F S256x1 .i32 := iblk m c 2 t0_0
def X3 (c : Dev nD) : Vec F S2x128x256 .bf16 := iblk m c 3 t0_0
def X4 (c : Dev nD) : Vec F S128x256 .bf16 := iblk m c 4 t0_0

/-- One of the two experts, as it is loaded. -/
def E0 (c : Dev nD) : Vec F S1x128x256 .bf16 :=
  fun i => X3 m c ((Rect.unit (s := S2x128x256) ![0, 0, 0] S1x128x256.size inb_S2x128x256_S1x128x256_0_0_0).emb i)
def E1 (c : Dev nD) : Vec F S1x128x256 .bf16 :=
  fun i => X3 m c ((Rect.unit (s := S2x128x256) ![1, 0, 0] S1x128x256.size inb_S2x128x256_S1x128x256_1_0_0).emb i)

/-- The device's number along the mesh, as the kernel computes it. -/
abbrev me (c : Dev nD) : BitVec 32 := Scalar.remsi (Scalar.divsi (Dev.word c) 1#32) 32#32

/-! ## The two halves of a device's own product -/

def mine (h : Bool) (c : Dev nD) : Vec F S256x128 .bf16 :=
  match h with
  | false => drop1 (k0_pay10 (k0_pay6 (me c) (k0_pay1 (X0 m c)) (k0_pay2 (X0 m c) (X1 m c)) (k0_pay3 (X0 m c) (X1 m c)) (X2 m c) (E0 m c))
      (k0_pay7 (me c) (k0_pay2 (X0 m c) (X1 m c)) (k0_pay3 (X0 m c) (X1 m c)) (X2 m c)) (k0_pay8 (k0_pay1 (X0 m c)) (E1 m c)))
  | true => drop1 (k0_pay11 (k0_pay6 (me c) (k0_pay1 (X0 m c)) (k0_pay2 (X0 m c) (X1 m c)) (k0_pay3 (X0 m c) (X1 m c)) (X2 m c) (E0 m c))
      (k0_pay7 (me c) (k0_pay2 (X0 m c) (X1 m c)) (k0_pay3 (X0 m c) (X1 m c)) (X2 m c)) (k0_pay8 (k0_pay1 (X0 m c)) (E1 m c)))

/-- What device `c` holds of half `h` after `s` stages. -/
def accV (h : Bool) : ℕ → Dev nD → Vec F S256x128 .bf16
  | 0, c => mine m h c
  | s + 1, c => addf (accV h s c) (accV h s (peer h s c))

/-- The shared expert's product. -/
abbrev shared (c : Dev nD) : FVec F S256x256 .f32 := k0_pay12 (k0_pay1 (X0 m c)) (X4 m c)

/-- What the device writes in the two halves of its result's columns; -/
def leftV (c : Dev nD) : Vec F S256x128 .f32 := k0_pay21 (shared m c) (lift1 (accV m false 4 c)) (lift1 (accV m false 4 (peer false 4 c)))
def rightV (c : Dev nD) : Vec F S256x128 .f32 := k0_pay22 (shared m c) (lift1 (accV m true 4 c)) (lift1 (accV m true 4 (peer true 4 c)))

/-- the rectangles they are written at; -/
abbrev leftR : Rect S256x256 := Rect.unit (s := S256x256) ![0, 0] S256x128.size inb_S256x256_S256x128_0_0
abbrev rightR : Rect S256x256 := Rect.unit (s := S256x256) ![0, 128] S256x128.size inb_S256x256_S256x128_0_128

/-- and the result they make together. -/
def outV (c : Dev nD) : Vec F S256x256 .f32 := rightR.overlay (leftR.overlay (fun _ => FloatOps.ofBits .f32 0) (leftV m c)) (rightV m c)

/-! ## The stages' payloads are sums -/

theorem pay13_eq (V U : Vec F S256x128 .bf16) : drop1 (k0_pay13 (lift1 V) (lift1 U)) = addf V U := by
  show drop1 (lift1 (addf (drop1 (lift1 V)) (drop1 (lift1 U)))) = _
  rw [drop1_lift1, drop1_lift1, drop1_lift1]
theorem pay14_eq (V U : Vec F S256x128 .bf16) : drop1 (k0_pay14 (lift1 V) (lift1 U)) = addf V U := pay13_eq V U
theorem pay15_eq (V U : Vec F S256x128 .bf16) : drop1 (k0_pay15 (lift1 V) (lift1 U)) = addf V U := pay13_eq V U
theorem pay16_eq (V U : Vec F S256x128 .bf16) : drop1 (k0_pay16 (lift1 V) (lift1 U)) = addf V U := pay13_eq V U
theorem pay17_eq (V U : Vec F S256x128 .bf16) : drop1 (k0_pay17 (lift1 V) (lift1 U)) = addf V U := pay13_eq V U
theorem pay18_eq (V U : Vec F S256x128 .bf16) : drop1 (k0_pay18 (lift1 V) (lift1 U)) = addf V U := pay13_eq V U
theorem pay19_eq (V U : Vec F S256x128 .bf16) : drop1 (k0_pay19 (lift1 V) (lift1 U)) = addf V U := pay13_eq V U
theorem pay20_eq (V U : Vec F S256x128 .bf16) : drop1 (k0_pay20 (lift1 V) (lift1 U)) = addf V U := pay13_eq V U

end Cert.MoeProof

end
-- ==== Proof.Protocol.lean ====
/-
# The protocol of the all-reduce

Twenty-one cells per device: the barrier semaphore, and for each half and stage a send and a receive semaphore. A device
first raises the barrier of each of its five partners by one and hands over, with the unit, the two landing slots the
partner will write; when its own barrier has collected five units it holds its partners' landing slots for it. A transfer
of stage `s` lends half of the accumulator's slot to the send cell and pays the partner's receive cell with the partner's
landing slot holding what was sent. This module states that schedule, what each device owes, and the order of the waits.
-/
module

public import proofs.«01_k».proof.Proof.Values
public import Idealize.ShloMosaic.Lib.Pipeline.Launch

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Buffers and slots -/

/-- The accumulator and the landing buffer of a half. -/
abbrev accM : Bool → Memref sig .tc .vmem (SK 6) .bf16
  | false => Memref.whole cc0_scratch0
  | true => Memref.whole cc0_scratch1
abbrev comM : Bool → Memref sig .tc .vmem (SK 5) .bf16
  | false => Memref.whole cc0_scratch2
  | true => Memref.whole cc0_scratch3

abbrev accS (h : Bool) (k : ℕ) (hk : k < 6) : Memref sig .tc .vmem S256x128 .bf16 := slot (accM h) k (inSlot hk)
abbrev comS (h : Bool) (k : ℕ) (hk : k < 5) : Memref sig .tc .vmem S256x128 .bf16 := slot (comM h) k (inSlot hk)

/-- Slot `k` of device `c`'s accumulator at `V`; of its landing buffer. -/
def acc (h : Bool) (k : ℕ) (hk : k < 6) (q : PosShare TreeShare) (c : Dev nD) (V : Vec F S256x128 .bf16) : sProp 𝕄 :=
  owns (c : Thread nD τ) (accS h k hk) q V
def com (h : Bool) (k : ℕ) (hk : k < 5) (c : Dev nD) (V : Vec F S256x128 .bf16) : sProp 𝕄 :=
  owns (c : Thread nD τ) (comS h k hk) fullShare V

instance acc_storable (h k hk q) (c : Dev nD) (V : Vec F S256x128 .bf16) : BI.Storable (upEmb : UEmb _ 𝕄) (acc h k hk q c V) := by
  unfold acc; infer_instance
instance com_storable (h k hk) (c : Dev nD) (V : Vec F S256x128 .bf16) : BI.Storable (upEmb : UEmb _ 𝕄) (com h k hk c V) := by
  unfold com; infer_instance

/-- What every transfer credits. -/
abbrev N : ℕ := (comS false 0 (by decide)).view.dmaCredit
theorem N_pos : 0 < N := View.dmaCredit_pos _ (by decide)

/-! ## Cells -/

/-- A cell of a device: the barrier, or the send (`false`) or receive (`true`) semaphore of a half and a stage. -/
abbrev XI : Type := Bool × Bool × Fin 5
abbrev CI : Type := Option XI

abbrev barS : Sem sig := (SemArray.scalar (sig.barrier 0 rfl) : Sems sig S_).sem

set_option backward.proofsInPublic true in
def osem (x : XI) : SemLoc sig := .dma ⟨6 + (if x.2.1 then 10 else 0) + (if x.1 then 5 else 0) + x.2.2.val, by
  obtain ⟨a, b, s⟩ := x; have := s.isLt; cases a <;> cases b <;> simp <;> omega⟩
def csem : CI → SemLoc sig
  | none => .reg barS
  | some x => osem x

theorem osem_injective : Function.Injective osem := by decide
theorem csem_injective : Function.Injective csem := by decide

/-- Which cell a semaphore is. -/
def kindOf (sm : SemLoc sig) : Option CI := (List.finRange 21).findSome? fun i =>
  let k : CI := if i.val = 0 then none else some (decide (5 ≤ (i.val - 1) % 10), decide (10 ≤ i.val - 1), ⟨(i.val - 1) % 5, Nat.mod_lt _ (by decide)⟩)
  if csem k = sm then some k else none

theorem kindOf_csem (k : CI) : kindOf (csem k) = some k := by revert k; decide
abbrev cell (k : CI) (c : Dev nD) : GSem nD τ sig := ((c : Thread nD τ), csem k)
abbrev barC (c : Dev nD) : GSem nD τ sig := cell none c
abbrev sendC (h : Bool) (s : Fin 5) (c : Dev nD) : GSem nD τ sig := cell (some (false, h, s)) c
abbrev recvC (h : Bool) (s : Fin 5) (c : Dev nD) : GSem nD τ sig := cell (some (true, h, s)) c

/-! ## The schedule -/

theorem s6 (s : Fin 5) : s.val < 6 := Nat.lt_succ_of_lt s.isLt

/-- The landing slot of device `d` for half `h`, stage `s`, at some value. -/
def land (h : Bool) (s : Fin 5) (d : Dev nD) : sProp 𝕄 := iprop(∃ V, com (F := F) h s.val s.isLt d V)

instance land_storable (h s) (d : Dev nD) : BI.Storable (upEmb : UEmb _ 𝕄) (land (F := F) h s d) := by unfold land; infer_instance

/-- What partner `d` hands to device `c` with its barrier unit: its two landing slots `c` writes. -/
def barPay (d : Fin 5) (c : Dev nD) : sProp 𝕄 :=
  iprop(land false d (peer false d.val c) ∗ land true (sig5 d) (peer false d.val c))

/-- The payload of a cell's duty. -/
def pay (k : Option CI) (c : Dev nD) (d : Fin 5) : sProp 𝕄 :=
  match k with
  | none => iprop(emp)
  | some none => barPay d c
  | some (some (false, h, s)) => acc h s.val (s6 s) fullShare.left c (accV m h s.val c)
  | some (some (true, h, s)) => com h s.val s.isLt c (accV m h s.val (peer h s.val c))

instance pay_storable (k : Option CI) (c : Dev nD) (d : Fin 5) : BI.Storable (upEmb : UEmb _ 𝕄) (pay m k c d) := by
  unfold pay barPay; split <;> infer_instance

/-- Its duties in round 0: five on the barrier, one on each other cell. -/
def dutiesK : Option CI → Finset (Fin 5)
  | none => ∅
  | some none => Finset.univ
  | some (some _) => {0}

def sched : Rounds.Schedule (GSem nD τ sig) (Fin 5) 𝕄 where
  duties g r := if r = 0 ∧ g.1.2 = .tc then dutiesK (kindOf g.2) else ∅
  unitless _ := False
  amount g _ _ := match g.2 with | .reg _ => 1 | .dma _ => N
  payload g _ d := pay m (kindOf g.2) g.1.1 d
  amount_pos g _ _ _ := by
    cases g.2 with
    | reg _ => exact Nat.one_pos
    | dma _ => exact N_pos

instance sched_payload_storable (g : GSem nD τ sig) (r : ℕ) (d : Fin 5) :
    BI.Storable (upEmb : UEmb _ 𝕄) ((sched m).payload g r d) := pay_storable m _ _ _

section Sched

variable (c : Dev nD)

theorem duties_bar : (sched m).duties (barC c) 0 = Finset.univ := by
  refine (show (sched m).duties (barC c) 0 = dutiesK (kindOf (csem none)) from by dsimp only [sched]; exact if_pos ⟨rfl, rfl⟩).trans ?_
  rw [kindOf_csem]; rfl
theorem duties_x (x : XI) : (sched m).duties (cell (some x) c) 0 = {0} := by
  refine (show (sched m).duties (cell (some x) c) 0 = dutiesK (kindOf (csem (some x))) from by dsimp only [sched]; exact if_pos ⟨rfl, rfl⟩).trans ?_
  rw [kindOf_csem]; rfl
theorem duties_later (g : GSem nD τ sig) : ∀ r, 1 ≤ r → (sched m).duties g r = ∅ :=
  fun r hr => if_neg fun h => by omega

theorem amount_bar (d : Fin 5) : (sched m).amount (barC c) 0 d = 1 := rfl
theorem amount_x (x : XI) (d : Fin 5) : (sched m).amount (cell (some x) c) 0 d = N := rfl

theorem expect_bar : (sched m).expect (barC c) 0 = 5 := by
  unfold Schedule.expect Schedule.amountOf
  rw [duties_bar, Finset.sum_congr rfl fun d _ => amount_bar m c d, Finset.sum_const, Finset.card_univ, Fintype.card_fin, smul_eq_mul]
theorem expect_x (x : XI) : (sched m).expect (cell (some x) c) 0 = N := by
  unfold Schedule.expect Schedule.amountOf
  rw [duties_x, Finset.sum_singleton, amount_x]

theorem payload_bar (d : Fin 5) : (sched m).payload (barC c) 0 d = barPay d c := by
  show pay m (kindOf (csem none)) c d = _; rw [kindOf_csem]; rfl
theorem payload_send (h : Bool) (s : Fin 5) (d : Fin 5) :
    (sched m).payload (sendC h s c) 0 d = acc h s.val (s6 s) fullShare.left c (accV m h s.val c) := by
  show pay m (kindOf (csem (some (false, h, s)))) c d = _; rw [kindOf_csem]; rfl
theorem payload_recv (h : Bool) (s : Fin 5) (d : Fin 5) :
    (sched m).payload (recvC h s c) 0 d = com h s.val s.isLt c (accV m h s.val (peer h s.val c)) := by
  show pay m (kindOf (csem (some (true, h, s)))) c d = _; rw [kindOf_csem]; rfl

theorem rest_x (x : XI) :
    bigSep ((sched m).duties (cell (some x) c) 0 \ ∅) (fun d => (sched m).payload (cell (some x) c) 0 d)
      = (sched m).payload (cell (some x) c) 0 0 := by
  rw [Finset.sdiff_empty, duties_x, bigSep_singleton]

/-- What the barrier's five units bring device `c`: each partner's landing slot for it. -/
theorem rest_bar :
    bigSep ((sched m).duties (barC c) 0 \ ∅) (fun d => (sched m).payload (barC c) 0 d)
      ⊢ (bigSep Finset.univ fun hs : Bool × Fin 5 => land hs.1 hs.2 (peer hs.1 hs.2.val c) : sProp 𝕄) := by
  have hp : Function.Bijective sig5 := by decide
  rw [Finset.sdiff_empty, duties_bar, bigSep_congr fun d _ => payload_bar m c d, bigSep_univ_prod,
    bigSep_univ_eq_bigSepL [false, true] (by decide) (by decide) (fun h : Bool => bigSep Finset.univ fun s : Fin 5 => land h s (peer h s.val c)),
    bigSepL_cons_cons, bigSepL_singleton, bigSep_univ_equiv (Equiv.ofBijective sig5 hp) (fun s : Fin 5 => land true s (peer true s.val c))]
  unfold barPay
  rw [bigSep_sep']
  refine sep_mono_right (bigSep_mono fun d _ => ?_)
  show land true (sig5 d) (peer false d.val c) ⊢ land true (sig5 d) (peer true (sig5 d).val c)
  rw [peer_sig]

end Sched

/-! ## What a device owes, in the order it pays -/

/-- A list of payments as what is owed: the head is paid first. -/
def owe : List (GSem nD τ sig × ℕ) → CellTallies nD τ sig Unit
  | [] => 0
  | x :: xs => owe xs + tallyAt x.1 () x.2

def payBar (d : Fin 5) (c : Dev nD) : GSem nD τ sig × ℕ := (barC (peer false d.val c), 1)
def payX (h : Bool) (s : Fin 5) (c : Dev nD) : GSem nD τ sig × ℕ := (recvC h s (peer h s.val c), N)

/-- The five barrier units, then the transfers stage by stage. -/
def pays (c : Dev nD) : List (GSem nD τ sig × ℕ) :=
  [payBar 0 c, payBar 1 c, payBar 2 c, payBar 3 c, payBar 4 c,
    payX false 0 c, payX true 0 c, payX false 1 c, payX true 1 c, payX false 2 c, payX true 2 c, payX false 3 c, payX true 3 c, payX false 4 c, payX true 4 c]

/-- What is still owed after `n` payments. -/
def O (c : Dev nD) (n : ℕ) : CellTallies nD τ sig Unit := owe ((pays c).drop n)

def L (g : GSem nD τ sig) : Finset Unit := if g.1.2 = .tc then {()} else ∅

/-- The level of a cell: the barrier first, the receive cells stage by stage; what nobody owes lowest. -/
def lvK : Option CI → ℕ
  | none => 0
  | some none => 1
  | some (some (false, _, _)) => 0
  | some (some (true, _, s)) => 2 + s.val
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl

theorem lv_cell (k : CI) (c : Dev nD) : lv (cell k c) () = lvK (some k) := by
  show lvK (kindOf (csem k)) = _; rw [kindOf_csem]

theorem owe_pos {l : List (GSem nD τ sig × ℕ)} {g : GSem nD τ sig} {u : Unit} (h : 0 < owe l g u) : ∃ x ∈ l, x.1 = g := by
  induction l with
  | nil => exact absurd h (Nat.lt_irrefl 0)
  | cons x xs ih =>
    unfold owe at h
    rw [Pi.add_apply, Finsupp.add_apply, tallyAt_apply] at h
    by_cases e : g = x.1
    · exact ⟨x, List.mem_cons_self, e.symm⟩
    · rw [if_neg (fun h' => e h'.1), Nat.add_zero] at h
      obtain ⟨y, hy, hg⟩ := ih h
      exact ⟨y, List.mem_cons_of_mem _ hy, hg⟩

/-- The levels of the payments, in order. -/
def payLv : List ℕ := [1, 1, 1, 1, 1, 2, 2, 3, 3, 4, 4, 5, 5, 6, 6]

theorem pays_lv (c : Dev nD) : (pays c).map (fun x => lv x.1 ()) = payLv := by
  simp only [pays, payBar, payX, List.map, lv_cell, lvK, payLv]; rfl

theorem pays_tc (c : Dev nD) : ∀ x ∈ pays c, x.1.1.2 = .tc := by
  intro x hx
  simp only [pays, List.mem_cons, List.not_mem_nil, or_false] at hx
  rcases hx with rfl | rfl | rfl | rfl | rfl | rfl | rfl | rfl | rfl | rfl | rfl | rfl | rfl | rfl | rfl <;> rfl

/-- A device may wait on a cell below every cell it still owes. -/
theorem mayWait (c : Dev nD) (sm : SemLoc sig) (n b : ℕ) (hb : lvK (kindOf sm) ≤ b) (h : ∀ y ∈ payLv.drop n, b < y) :
    (levAts L lv : sProp 𝕄) ⊢ MayWait (c : Thread nD τ) sm () (O c n) := by
  have key : ∀ (g : GSem nD τ sig) (u : Unit), 0 < O c n g u → g.1.2 = .tc ∧ b < lv g () := by
    intro g u hg
    obtain ⟨x, hx, rfl⟩ := owe_pos hg
    refine ⟨pays_tc c x (List.mem_of_mem_drop hx), h _ ?_⟩
    rw [← pays_lv c, ← List.map_drop]
    exact List.mem_map_of_mem hx
  exact MayOwe.of_cut (L := L) (lev := lv) b (fun p hp => by rw [Finset.mem_singleton.mp hp, L_tc]; exact Finset.mem_singleton_self _)
    (fun g u hg => by unfold L; rw [if_pos (key g u hg).1]; exact Finset.mem_singleton_self _)
    (fun p hp => by rw [Finset.mem_singleton.mp hp]; exact hb)
    (fun g u hg => (key g u hg).2)

end Cert.MoeProof

end
-- ==== Proof.Steps.lean ====
/-
# The steps of the protocol

One rule for each effect a device performs on the protocol's cells, for any half and stage: raising a partner's barrier,
waiting on its own, sending a slot, taking a landing, taking a slot back. Between the steps a device holds, for each half
and stage, one bundle that says how far that exchange has come.
-/
module

public import proofs.«01_k».proof.Proof.Protocol

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What everyone knows -/

/-- The levels of all cells. -/
@[irreducible] def levels : sProp 𝕄 := levAts L lv
instance levels_persistent : BI.Persistent (levels (F := F)) := by unfold levels; infer_instance

/-- Every cell's invariant, that every cell has reached its round, and the levels. -/
def known (K : Dev nD × CI → ℕ) : sProp 𝕄 :=
  iprop((bigSep Finset.univ fun ck : Dev nD × CI => cellInv ER (sched m) (K ck) (cell ck.2 ck.1))
    ∗ (bigSep Finset.univ fun ck : Dev nD × CI => reached ER (cell ck.2 ck.1) 0) ∗ levels)

instance known_persistent (K : Dev nD × CI → ℕ) : BI.Persistent (known m K) := by unfold known; infer_instance

variable (K : Dev nD × CI → ℕ) (c : Dev nD)

theorem known_inv (k : CI) : known m K ⊢ cellInv ER (sched m) (K (c, k)) (cell k c) := by
  unfold known
  exact (BI.sep_and.trans and_elimL).trans (bigSep_elim (Φ := fun ck : Dev nD × CI => (cellInv ER (sched m) (K ck) (cell ck.2 ck.1) : sProp 𝕄)) (Finset.mem_univ (c, k)))
theorem known_reached (k : CI) : known m K ⊢ reached ER (cell k c) 0 := by
  unfold known
  exact ((BI.sep_and.trans and_elimR).trans (BI.sep_and.trans and_elimL)).trans
    (bigSep_elim (Φ := fun ck : Dev nD × CI => (reached ER (cell ck.2 ck.1) 0 : sProp 𝕄)) (Finset.mem_univ (c, k)))
theorem known_lev : known m K ⊢ levels := by
  unfold known
  iintro ⟨-, -, H⟩
  iexact H

theorem lv_le (k : CI) (b : ℕ) (hb : lvK (some k) ≤ b) : lvK (kindOf (csem k)) ≤ b := by
  rw [kindOf_csem]; exact hb
theorem lev_wait (k : CI) (n b : ℕ) (hb : lvK (some k) ≤ b) (h : ∀ y ∈ payLv.drop n, b < y) :
    levels (F := F) ⊢ MayWait (c : Thread nD τ) (csem k) () (O c n) := by
  have := lv_le k b hb
  unfold levels
  exact mayWait c _ n b this h
theorem known_wait (k : CI) (n b : ℕ) (hb : lvK (some k) ≤ b) (h : ∀ y ∈ payLv.drop n, b < y) :
    known m K ⊢ MayWait (c : Thread nD τ) (csem k) () (O c n) := by
  refine BI.Entails.trans (Q := levels) ?_ ?_
  · exact known_lev m K
  · exact lev_wait c k n b hb h

/-! ## How far an exchange has come -/

/-- What a device still owes after `n` payments, whatever it has waited on. -/
def due (n : ℕ) : sProp 𝕄 := iprop(∃ W, owes (c : Thread nD τ) (O c n) W)

/-- Nothing done. -/
def idle (h : Bool) (s : Fin 5) : sProp 𝕄 :=
  iprop(atPos ER (sendC h s c) 0 ∅ 0 ∗ atPos ER (recvC h s c) 0 ∅ 0 ∗ dutyTok ER (sendC h s c) 0 0
    ∗ dutyTok ER (recvC h s (peer h s.val c)) 0 0 ∗ cred (tallyAt (recvC h s c) () N))
/-- The slot is on its way; the device keeps half of it. -/
def sent (h : Bool) (s : Fin 5) : sProp 𝕄 :=
  iprop(atPos ER (sendC h s c) 0 ∅ 0 ∗ atPos ER (recvC h s c) 0 ∅ 0 ∗ cred (tallyAt (sendC h s c) () N) ∗ cred (tallyAt (recvC h s c) () N)
    ∗ acc h s.val (s6 s) fullShare.right c (accV m h s.val c))
/-- The partner's slot has landed. -/
def got (h : Bool) (s : Fin 5) : sProp 𝕄 :=
  iprop(atPos ER (sendC h s c) 0 ∅ 0 ∗ cred (tallyAt (sendC h s c) () N) ∗ semVal (recvC h s c) 0
    ∗ acc h s.val (s6 s) fullShare.right c (accV m h s.val c) ∗ com h s.val s.isLt c (accV m h s.val (peer h s.val c)))
/-- The slot is back and both cells are closed. -/
def over (h : Bool) (s : Fin 5) : sProp 𝕄 :=
  iprop(semVal (sendC h s c) 0 ∗ semVal (recvC h s c) 0
    ∗ acc h s.val (s6 s) fullShare c (accV m h s.val c) ∗ com h s.val s.isLt c (accV m h s.val (peer h s.val c)))

theorem credit_com (h : Bool) (s : Fin 5) : (comS h s.val s.isLt).view.dmaCredit = N := by cases h <;> rfl
theorem credit_acc (h : Bool) (s : Fin 5) : (accS h s.val (s6 s)).view.dmaCredit = N := by cases h <;> rfl

theorem amount_com (h : Bool) (s : Fin 5) : (comS h s.val s.isLt).view.amount (csem (some (true, h, s))) = N := credit_com h s

/-- A payload is the value written, whatever was there. -/
theorem com_intro (h : Bool) (s : Fin 5) (d : Dev nD) (f : Buf (Elt F) ((comS h s.val s.isLt).view.loc (d : Thread nD τ))) (V : Vec F S256x128 .bf16) :
    ((comS h s.val s.isLt).view.loc (d : Thread nD τ) ↦[(comS h s.val s.isLt).view.set]{fullShare} ((comS h s.val s.isLt).view.write (Elt F) f V Finset.univ) : sProp 𝕄)
      ⊢ com h s.val s.isLt d V := by
  unfold com owns
  iintro H
  iexists ((comS h s.val s.isLt).view.write (Elt F) f V Finset.univ)
  isplitr
  · ipureintro; exact View.read_write_univ _ _
  iexact H

/-! ## The steps -/

section Steps

variable {α : Type}

/-- Raising the barrier of the partner of the left half's stage `d`. -/
theorem step_signal (d : Fin 5) (n : ℕ) (n' : Dev nD) (hn : n' = peer false d.val c) {one : ℤ} (h1 : one = ((1 : ℕ) : ℤ))
    (hO : O c n = O c (n + 1) + tallyAt (payBar d c).1 () (payBar d c).2) {k : PUnit → Prog (TpuEff nD τ sig (Elt F) Λ₀ .tc) α} {Q : α → sProp 𝕄} :
    iprop(known m K ∗ dutyTok ER (barC (peer false d.val c)) 0 d ∗ land false d c ∗ land true (sig5 d) c ∗ due c n)
      ⊢ iprop((due c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n' : Thread nD τ) barS one) k) Q) := by
  subst hn; subst h1
  unfold due
  iintro ⟨#HK, Htok, Hl, Hr, %W, HO⟩ Hk
  iapply (Rounds.wp_signal 𝒱₀ ER (sched m) (c : Thread nD τ) none (dst := (peer false d.val c : Thread nD τ)) (κ := K (peer false d.val c, none))
      (d := d) (r := 0) (Eq.mpr (congrArg (d ∈ ·) (duties_bar m (peer false d.val c))) (Finset.mem_univ d)) (amount_bar m (peer false d.val c) d) () (O c (n + 1)) hO) $$ [Htok Hl Hr HO]
  · isplitr; · iapply (known_inv m K (peer false d.val c) none); iexact HK
    isplitl [HO]; · iexact HO
    isplitl [Htok]; · iexact Htok
    isplitl [Hl Hr]
    · iapply (show iprop(land false d c ∗ land true (sig5 d) c) ⊢ (sched m).payload ((peer false d.val c : Thread nD τ), .reg barS) 0 d from by
        show _ ⊢ (sched m).payload (barC (peer false d.val c)) 0 d
        rw [payload_bar m (peer false d.val c) d]; unfold barPay; rw [peer_peer])
      isplitl [Hl] <;> iassumption
    iapply (known_reached m K (peer false d.val c) none); iexact HK
  iintro HO
  iapply Hk
  iexists W; iexact HO

/-- Waiting for the five units of one's own barrier. -/
theorem step_barrier (n : ℕ) (hn : ∀ y ∈ payLv.drop n, 1 < y) {five : ℤ} (h5 : five = ((5 : ℕ) : ℤ)) {k : PUnit → Prog (TpuEff nD τ sig (Elt F) Λ₀ .tc) α} {Q : α → sProp 𝕄} :
    iprop(known m K ∗ atPos ER (barC c) 0 ∅ 0 ∗ cred (tallyAt (barC c) () 5) ∗ due c n)
      ⊢ iprop(((due c n ∗ semVal (barC c) 0 ∗ bigSep Finset.univ fun hs : Bool × Fin 5 => land hs.1 hs.2 (peer hs.1 hs.2.val c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS five) k) Q) := by
  subst h5
  unfold due
  iintro ⟨#HK, Hat, Hc, %W, HO⟩ Hk
  iapply (Rounds.wp_wait_rest_token 𝒱₀ ER (sched m) (c : Thread nD τ) none (κ := K (c, none)) (sm := csem none)
      (wpE_semWait_eq 𝒱₀ (c : Thread nD τ) none Set.univ) (Set.mem_univ _) () (O := O c n) (W := W) (R := 0) (m := 0) (T := ∅)
      (by rw [expect_bar])) $$ [Hat Hc HO]
  · isplitr; · iapply (known_inv m K c none); iexact HK
    isplitl [Hc]; · iexact Hc
    isplitl [HO]; · iexact HO
    isplitr
    · iapply (known_wait m K c (none) n 1 (Nat.le_refl _) hn); iexact HK
    iexact Hat
  iintro ⟨HO, Hat, -, Hpay⟩
  ihave Hp := (rest_bar m c) $$ Hpay
  imod (Rounds.cell_close ER (sched m) (Set.mem_univ (K (c, none))) (fun h => h) (R := 0 + 1) (duties_later m (barC c))) $$ [Hat] with Hz
  · isplitr; · iapply (known_inv m K c none); iexact HK
    iexact Hat
  iapply Hk
  isplitl [HO]; · iexists _; iexact HO
  isplitl [Hz]; · iexact Hz
  iexact Hp

/-- Sending the slot of stage `s`. -/
theorem step_send (h : Bool) (s : Fin 5) (n : ℕ) (n' : Dev nD) (hn : n' = peer h s.val c) {sS sR : SemLoc sig}
    (hS : sS = csem (some (false, h, s))) (hR : sR = csem (some (true, h, s)))
    (hO : O c n = O c (n + 1) + tallyAt (payX h s c).1 () (payX h s c).2) {k : PUnit → Prog (TpuEff nD τ sig (Elt F) Λ₀ .tc) α} {Q : α → sProp 𝕄}
    {hsc : (comS h s.val s.isLt : Memref sig (Dev.tc n' : Thread nD τ).2.kind .vmem S256x128 .bf16).view.ref.isScScratch = false}
    {hsrc : (accS h s.val (s6 s)).view.WordExact} {hdst : (comS h s.val s.isLt).view.WordExact}
    {hsem : DmaTarget.Typed .vmem sR (.remote (Dev.tc n' : Thread nD τ) (comS h s.val s.isLt) sS hsc)} :
    iprop(known m K ∗ idle c h s ∗ land h s (peer h s.val c) ∗ acc h s.val (s6 s) fullShare c (accV m h s.val c) ∗ due c n)
      ⊢ iprop(((sent m c h s ∗ due c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accS h s.val (s6 s)) (.remote (Dev.tc n' : Thread nD τ) (comS h s.val s.isLt) sS hsc) sR hsrc hdst hsem) k) Q) := by
  subst hn; subst hS; subst hR
  iintro ⟨#HK, Hidle, Hland, Hacc, Hdue⟩ Hk
  unfold idle due land
  icases Hidle with ⟨HatS, HatR, HtS, HtR, HcR⟩
  icases Hland with ⟨%U, Hland⟩
  icases Hdue with ⟨%W, HO⟩
  ihave Hacc2 := (show acc h s.val (s6 s) fullShare c (accV m h s.val c)
      ⊢ iprop(acc h s.val (s6 s) fullShare.left c (accV m h s.val c) ∗ acc h s.val (s6 s) fullShare.right c (accV m h s.val c)) from (owns_halves _ _ _ _).1) $$ Hacc
  icases Hacc2 with ⟨Hl, Hr⟩
  ihave Hl' := (show acc h s.val (s6 s) fullShare.left c (accV m h s.val c)
      ⊢ iprop(∃ f, ⌜(accS h s.val (s6 s)).view.read (Elt F) f = accV m h s.val c⌝
        ∗ ((accS h s.val (s6 s)).view.loc (c : Thread nD τ) ↦[(accS h s.val (s6 s)).view.set]{fullShare.left} f)) from .rfl) $$ Hl
  icases Hl' with ⟨%f, %hf, Hl⟩
  ihave Hd' := (show com h s.val s.isLt (peer h s.val c) U
      ⊢ iprop(∃ f, ⌜(comS h s.val s.isLt).view.read (Elt F) f = U⌝
        ∗ ((comS h s.val s.isLt).view.loc (peer h s.val c : Thread nD τ) ↦[(comS h s.val s.isLt).view.set]{fullShare} f)) from .rfl) $$ Hland
  icases Hd' with ⟨%fd, -, Hd⟩
  iapply (Rounds.wp_send_pointsTo 𝒱₀ ER (sched m) (c : Thread nD τ) none (κ₁ := K (c, some (false, h, s))) (κ₂ := K (peer h s.val c, some (true, h, s)))
    (r₁ := 0) (r₂ := 0) (d₁ := 0) (d₂ := 0) (fs := f) (fd := fd)
    (by rw [duties_x m c]; exact Finset.mem_singleton_self _) (by rw [duties_x m (peer h s.val c)]; exact Finset.mem_singleton_self _)
    () () N (amount_com h s) (amount_x m c _ 0) (amount_x m (peer h s.val c) _ 0) (O c (n + 1)) hO (W := W)
    (by
      rw [payload_send]; unfold acc owns
      iintro H; iexists f; isplitr; · ipureintro; exact hf
      iexact H)
    (by rw [payload_recv, hf, peer_peer]; exact com_intro h s _ fd _)) $$ [Hl Hd HO HtS HtR]
  · isplitr; · iapply (known_inv m K c (some (false, h, s))); iexact HK
    isplitr; · iapply (known_inv m K (peer h s.val c) (some (true, h, s))); iexact HK
    isplitl [Hl]; · iexact Hl
    isplitl [Hd]; · iexact Hd
    isplitl [HO]; · iexact HO
    isplitl [HtS]; · iexact HtS
    isplitr; · iapply (known_reached m K c (some (false, h, s))); iexact HK
    isplitl [HtR]; · iexact HtR
    iapply (known_reached m K (peer h s.val c) (some (true, h, s))); iexact HK
  iintro ⟨HcS, HO⟩
  iapply Hk
  unfold sent
  isplitr [HO]
  · isplitl [HatS]; · iexact HatS
    isplitl [HatR]; · iexact HatR
    isplitl [HcS]; · iexact HcS
    isplitl [HcR]; · iexact HcR
    iexact Hr
  iexists W; iexact HO

/-- Taking the landing of stage `s`. -/
theorem step_recv (h : Bool) (s : Fin 5) (n : ℕ) (hn : ∀ y ∈ payLv.drop n, 2 + s.val < y) {q : DmaSem sig} (hq : SemLoc.dma q = csem (some (true, h, s)))
    {k : PUnit → Prog (TpuEff nD τ sig (Elt F) Λ₀ .tc) α} {Q : α → sProp 𝕄}
    {hsrc : (accS h s.val (s6 s)).view.WordExact} {hdst : (comS h s.val s.isLt).view.WordExact} :
    iprop(known m K ∗ sent m c h s ∗ due c n)
      ⊢ iprop(((got m c h s ∗ due c n) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q (accS h s.val (s6 s)) (comS h s.val s.isLt) hsrc hdst) k) Q) := by
  iintro ⟨#HK, Hsent, Hdue⟩ Hk
  unfold sent due
  icases Hsent with ⟨HatS, HatR, HcS, HcR, Hr⟩
  icases Hdue with ⟨%W, HO⟩
  iapply (Rounds.wp_wait_rest_token 𝒱₀ ER (sched m) (c : Thread nD τ) none (κ := K (c, some (true, h, s))) (sm := csem (some (true, h, s))) (k' := N)
      (fun Kf => by rw [wpE_waitDma2_eq 𝒱₀ (c : Thread nD τ) none Set.univ, hq, credit_com]) (Set.mem_univ _) () (O := O c n) (W := W) (R := 0) (m := 0) (T := ∅)
      (by rw [Nat.zero_add, expect_x])) $$ [HatR HcR HO]
  · isplitr; · iapply (known_inv m K c (some (true, h, s))); iexact HK
    isplitl [HcR]; · iexact HcR
    isplitl [HO]; · iexact HO
    isplitr
    · iapply (known_wait m K c ((some (true, h, s))) n (2 + s.val) (Nat.le_refl _) hn); iexact HK
    iexact HatR
  iintro ⟨HO, HatR, -, Hpay⟩
  ihave Hp := (Entails.of_eq ((rest_x m c (true, h, s)).trans (payload_recv m c h s 0))) $$ Hpay
  imod (Rounds.cell_close ER (sched m) (Set.mem_univ (K (c, some (true, h, s)))) (fun h => h) (R := 0 + 1) (duties_later m (recvC h s c))) $$ [HatR] with Hz
  · isplitr; · iapply (known_inv m K c (some (true, h, s))); iexact HK
    iexact HatR
  iapply Hk
  unfold got
  isplitr [HO]
  · isplitl [HatS]; · iexact HatS
    isplitl [HcS]; · iexact HcS
    isplitl [Hz]; · iexact Hz
    isplitl [Hr]; · iexact Hr
    iexact Hp
  iexists _; iexact HO

/-- Taking the sent slot of stage `s` back. -/
theorem step_back (h : Bool) (s : Fin 5) (n : ℕ) (hn : ∀ y ∈ payLv.drop n, 0 < y) {q : DmaSem sig} (hq : SemLoc.dma q = csem (some (false, h, s)))
    {k : PUnit → Prog (TpuEff nD τ sig (Elt F) Λ₀ .tc) α} {Q : α → sProp 𝕄}
    {hsrc : (comS h s.val s.isLt).view.WordExact} {hdst : (accS h s.val (s6 s)).view.WordExact} :
    iprop(known m K ∗ got m c h s ∗ due c n)
      ⊢ iprop(((over m c h s ∗ due c n) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q (comS h s.val s.isLt) (accS h s.val (s6 s)) hsrc hdst) k) Q) := by
  iintro ⟨#HK, Hgot, Hdue⟩ Hk
  unfold got due
  icases Hgot with ⟨HatS, HcS, HzR, Hr, Hcom⟩
  icases Hdue with ⟨%W, HO⟩
  iapply (Rounds.wp_wait_rest_token 𝒱₀ ER (sched m) (c : Thread nD τ) none (κ := K (c, some (false, h, s))) (sm := csem (some (false, h, s))) (k' := N)
      (fun Kf => by rw [wpE_waitDma2_eq 𝒱₀ (c : Thread nD τ) none Set.univ, hq, credit_acc]) (Set.mem_univ _) () (O := O c n) (W := W) (R := 0) (m := 0) (T := ∅)
      (by rw [Nat.zero_add, expect_x])) $$ [HatS HcS HO]
  · isplitr; · iapply (known_inv m K c (some (false, h, s))); iexact HK
    isplitl [HcS]; · iexact HcS
    isplitl [HO]; · iexact HO
    isplitr
    · iapply (known_wait m K c ((some (false, h, s))) n 0 (Nat.le_refl _) hn); iexact HK
    iexact HatS
  iintro ⟨HO, HatS, -, Hpay⟩
  ihave Hl := (Entails.of_eq ((rest_x m c (false, h, s)).trans (payload_send m c h s 0))) $$ Hpay
  imod (Rounds.cell_close ER (sched m) (Set.mem_univ (K (c, some (false, h, s)))) (fun h => h) (R := 0 + 1) (duties_later m (sendC h s c))) $$ [HatS] with Hz
  · isplitr; · iapply (known_inv m K c (some (false, h, s))); iexact HK
    iexact HatS
  iapply Hk
  unfold over
  isplitr [HO]
  · isplitl [Hz]; · iexact Hz
    isplitl [HzR]; · iexact HzR
    isplitr [Hcom]
    · iapply (show iprop(acc h s.val (s6 s) fullShare.left c (accV m h s.val c) ∗ acc h s.val (s6 s) fullShare.right c (accV m h s.val c))
        ⊢ acc h s.val (s6 s) fullShare c (accV m h s.val c) from (owns_halves _ _ _ _).2)
      isplitl [Hl] <;> iassumption
    iexact Hcom
  iexists _; iexact HO

/-- Adding: the two loads, the discarded load of the next slot, and the store of the sum there. -/
theorem step_add (h : Bool) (s : Fin 5) (V₁ : Vec F S256x128 .bf16) (g : Vec F S1x256x128 .bf16 → Vec F S1x256x128 .bf16 → Vec F S1x256x128 .bf16)
    (hg : ∀ V U, drop1 (g (lift1 V) (lift1 U)) = addf V U)
    {hl₁ : (accM h).view.LoadsAt (slotR s.val (inSlot (s6 s))).toLoadRect} {hl₂ : (comM h).view.LoadsAt (slotR s.val (inSlot s.isLt)).toLoadRect}
    {hl₃ : (accM h).view.LoadsAt (slotR (s.val + 1) (inSlot (Nat.succ_lt_succ s.isLt))).toLoadRect}
    {hx : ((accM h).access (slotR (s.val + 1) (inSlot (Nat.succ_lt_succ s.isLt)))).Stores Finset.univ}
    {hm : (Finset.univ : Finset (slotR (s.val + 1) (inSlot (K := 6) (Nat.succ_lt_succ s.isLt))).shape.Idx) = Finset.univ ∨ ∀ a, (slotR (s.val + 1) (inSlot (K := 6) (Nat.succ_lt_succ s.isLt))).stride a = 1}
    {k : PUnit → Prog (TpuEff nD τ sig (Elt F) Λ₀ .tc) α} {Q : α → sProp 𝕄} :
    iprop(got m c h s ∗ acc h (s.val + 1) (Nat.succ_lt_succ s.isLt) fullShare c V₁)
      ⊢ iprop(((got m c h s ∗ acc h (s.val + 1) (Nat.succ_lt_succ s.isLt) fullShare c (accV m h (s.val + 1) c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load (accM h) (slotR s.val (inSlot (s6 s))).toLoadRect hl₁) fun v =>
                .op (.load (comM h) (slotR s.val (inSlot s.isLt)).toLoadRect hl₂) fun v' =>
                .op (.load (accM h) (slotR (s.val + 1) (inSlot (Nat.succ_lt_succ s.isLt))).toLoadRect hl₃) fun _ =>
                .op (.store (accM h) (slotR (s.val + 1) (inSlot (Nat.succ_lt_succ s.isLt))) (g v v') Finset.univ hx hm) k) Q) := by
  iintro ⟨Hgot, Hnext⟩ Hk
  unfold got acc com
  icases Hgot with ⟨HatS, HcS, HzR, Hr, Hcom⟩
  iapply (wp_slot_load (accM h) s.val (inSlot (s6 s)) 𝒱₀ c) $$ Hr
  iintro Hr
  iapply (wp_slot_load (comM h) s.val (inSlot s.isLt) 𝒱₀ c) $$ Hcom
  iintro Hcom
  iapply (wp_slot_load (accM h) (s.val + 1) (inSlot (Nat.succ_lt_succ s.isLt)) 𝒱₀ c) $$ Hnext
  iintro Hnext
  iapply (wp_slot_store (accM h) (s.val + 1) (inSlot (Nat.succ_lt_succ s.isLt)) 𝒱₀ c) $$ Hnext
  iintro Hnext
  rw [hg]
  iapply Hk
  isplitr [Hnext]
  · isplitl [HatS]; · iexact HatS
    isplitl [HcS]; · iexact HcS
    isplitl [HzR]; · iexact HzR
    isplitl [Hr]; · iexact Hr
    iexact Hcom
  iexact Hnext

end Steps

end Cert.MoeProof

end
-- ==== Proof.BodyA.lean ====
/-
# The run of a device's body, first four parts

The printed body is a chain of parts. Each part is run from what it touches; here the parts up to the first addition.
-/
module

public import proofs.«01_k».proof.Proof.Steps

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-! ## The printed addresses -/

theorem addr1 : (⟨k0_dev1 c, k0_dev1_lt c⟩ : Dev nD) = peer false 0 c := Fin.ext (by revert c; decide)
theorem addr2 : (⟨k0_dev2 c, k0_dev2_lt c⟩ : Dev nD) = peer false 1 c := Fin.ext (by revert c; decide)
theorem addr3 : (⟨k0_dev3 c, k0_dev3_lt c⟩ : Dev nD) = peer false 2 c := Fin.ext (by revert c; decide)
theorem addr4 : (⟨k0_dev4 c, k0_dev4_lt c⟩ : Dev nD) = peer false 3 c := Fin.ext (by revert c; decide)
theorem addr5 : (⟨k0_dev5 c, k0_dev5_lt c⟩ : Dev nD) = peer false 4 c := Fin.ext (by revert c; decide)
theorem addr6 : (⟨k0_dev6 c, k0_dev6_lt c⟩ : Dev nD) = peer false 0 c := Fin.ext (by revert c; decide)
theorem addr7 : (⟨k0_dev7 c, k0_dev7_lt c⟩ : Dev nD) = peer true 0 c := Fin.ext (by revert c; decide)
theorem addr8 : (⟨k0_dev8 c, k0_dev8_lt c⟩ : Dev nD) = peer false 1 c := Fin.ext (by revert c; decide)
theorem addr9 : (⟨k0_dev9 c, k0_dev9_lt c⟩ : Dev nD) = peer true 1 c := Fin.ext (by revert c; decide)
theorem addr10 : (⟨k0_dev10 c, k0_dev10_lt c⟩ : Dev nD) = peer false 2 c := Fin.ext (by revert c; decide)
theorem addr11 : (⟨k0_dev11 c, k0_dev11_lt c⟩ : Dev nD) = peer true 2 c := Fin.ext (by revert c; decide)
theorem addr12 : (⟨k0_dev12 c, k0_dev12_lt c⟩ : Dev nD) = peer false 3 c := Fin.ext (by revert c; decide)
theorem addr13 : (⟨k0_dev13 c, k0_dev13_lt c⟩ : Dev nD) = peer true 3 c := Fin.ext (by revert c; decide)
theorem addr14 : (⟨k0_dev14 c, k0_dev14_lt c⟩ : Dev nD) = peer false 4 c := Fin.ext (by revert c; decide)
theorem addr15 : (⟨k0_dev15 c, k0_dev15_lt c⟩ : Dev nD) = peer true 4 c := Fin.ext (by revert c; decide)

/-! ## The staged blocks and the result -/

abbrev pt (b : Ref sig .tc) (f : b.ty.Contents (Elt F)) : sProp 𝕄 := iprop(((c : Thread nD τ).loc b) ↦{fullShare} f)

theorem hz : (![0, 0] : Fin 2 → Nat) = fun _ => 0 := by funext a; fin_cases a <;> rfl

theorem read0 (f : (cc0_stg0_0 : Ref sig .tc).ty.Contents (Elt F)) :
    (Memref.whole cc0_stg0_0 : Memref sig .tc .vmem S256x128 .bf16).view.readAt (Elt F) (Rect.unit (s := S256x128) ![0, 0] S256x128.size inb_S256x128_S256x128_0_0).toLoadRect f = f :=
  Memref.readAt_unit_zero (Elt F) cc0_stg0_0 hz _ f
theorem read1 (f : (cc0_stg1_0 : Ref sig .tc).ty.Contents (Elt F)) :
    (Memref.whole cc0_stg1_0 : Memref sig .tc .vmem S128x64 .bf16).view.readAt (Elt F) (Rect.unit (s := S128x64) ![0, 0] S128x64.size inb_S128x64_S128x64_0_0).toLoadRect f = f :=
  Memref.readAt_unit_zero (Elt F) cc0_stg1_0 hz _ f
theorem read2 (f : (cc0_stg2_0 : Ref sig .tc).ty.Contents (Elt F)) :
    (Memref.whole cc0_stg2_0 : Memref sig .tc .vmem S256x1 .i32).view.readAt (Elt F) (Rect.unit (s := S256x1) ![0, 0] S256x1.size inb_S256x1_S256x1_0_0).toLoadRect f = f :=
  Memref.readAt_unit_zero (Elt F) cc0_stg2_0 hz _ f
theorem read4 (f : (cc0_stg4_0 : Ref sig .tc).ty.Contents (Elt F)) :
    (Memref.whole cc0_stg4_0 : Memref sig .tc .vmem S128x256 .bf16).view.readAt (Elt F) (Rect.unit (s := S128x256) ![0, 0] S128x256.size inb_S128x256_S128x256_0_0).toLoadRect f = f :=
  Memref.readAt_unit_zero (Elt F) cc0_stg4_0 hz _ f
theorem read3_0 : (Memref.whole cc0_stg3_0 : Memref sig .tc .vmem S2x128x256 .bf16).view.readAt (Elt F)
    (Rect.unit (s := S2x128x256) ![0, 0, 0] S1x128x256.size inb_S2x128x256_S1x128x256_0_0_0).toLoadRect (X3 m c) = E0 m c := rfl
theorem read3_1 : (Memref.whole cc0_stg3_0 : Memref sig .tc .vmem S2x128x256 .bf16).view.readAt (Elt F)
    (Rect.unit (s := S2x128x256) ![1, 0, 0] S1x128x256.size inb_S2x128x256_S1x128x256_1_0_0).toLoadRect (X3 m c) = E1 m c := rfl

/-- The ten landing slots the partners handed over, one by one. -/
theorem lands_split :
    (bigSep Finset.univ (fun hs : Bool × Fin 5 => land hs.1 hs.2 (peer hs.1 hs.2.val c)) : sProp 𝕄)
      ⊢ iprop(land false 0 (peer false 0 c) ∗ land true 0 (peer true 0 c) ∗ land false 1 (peer false 1 c) ∗ land true 1 (peer true 1 c)
        ∗ land false 2 (peer false 2 c) ∗ land true 2 (peer true 2 c) ∗ land false 3 (peer false 3 c) ∗ land true 3 (peer true 3 c)
        ∗ land false 4 (peer false 4 c) ∗ land true 4 (peer true 4 c)) := by
  rw [bigSep_univ_eq_bigSepL [(false, 0), (true, 0), (false, 1), (true, 1), (false, 2), (true, 2), (false, 3), (true, 3), (false, 4), (true, 4)] (by decide) (by decide)]
  simp only [bigSepL]
  exact .rfl

section Parts

set_option maxHeartbeats 1000000 in
/-- Part 1: the five barrier units go out, the first two blocks come in. -/
theorem part1 (Kt : (Σ' (d0 : Dev nD) (v2 : BitVec 32) (v3 : Sems sig S_) (v20 : FVec F S256x128 .bf16) (v23 : FVec F S256x64 .f32), FVec F S256x1 .f32) → sProp 𝕄) :
    iprop(known m K ∗ due c 0 ∗ pt c cc0_stg0_0 (X0 m c) ∗ pt c cc0_stg1_0 (X1 m c)
        ∗ dutyTok ER (barC (peer false 0 c)) 0 0 ∗ land false 0 c ∗ land true (sig5 0) c ∗ dutyTok ER (barC (peer false 1 c)) 0 1 ∗ land false 1 c ∗ land true (sig5 1) c ∗ dutyTok ER (barC (peer false 2 c)) 0 2 ∗ land false 2 c ∗ land true (sig5 2) c ∗ dutyTok ER (barC (peer false 3 c)) 0 3 ∗ land false 3 c ∗ land true (sig5 3) c ∗ dutyTok ER (barC (peer false 4 c)) 0 4 ∗ land false 4 c ∗ land true (sig5 4) c
        ∗ ((due c 5 ∗ pt c cc0_stg0_0 (X0 m c) ∗ pt c cc0_stg1_0 (X1 m c)) -∗ Kt ⟨c, me c, (SemArray.scalar (sig.barrier 0 rfl) : Sems sig S_), k0_pay1 (X0 m c), k0_pay2 (X0 m c) (X1 m c), k0_pay3 (X0 m c) (X1 m c)⟩))
      ⊢ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  simp only [k0_part1_eq_skeleton]; unfold k0_part1_skel
  simp only [semSignalWord, semWaitWord, Prog.lift, Prog.bind_op, Prog.bind_ret, Prog.pure_eq_ret, wp_deviceId]
  iintro ⟨#HK, HO, Hx, Hr, Ht0, Hl0, Hr0, Ht1, Hl1, Hr1, Ht2, Hl2, Hr2, Ht3, Hl3, Hr3, Ht4, Hl4, Hr4, Hk⟩
  iapply (step_signal m K c 0 0 _ (addr1 c) (by decide) rfl) $$ [HO Ht0 Hl0 Hr0]
  · isplitr; · iexact HK
    isplitl [Ht0]; · iexact Ht0
    isplitl [Hl0]; · iexact Hl0
    isplitl [Hr0]; · iexact Hr0
    iexact HO
  iintro HO
  iapply (step_signal m K c 1 1 _ (addr2 c) (by decide) rfl) $$ [HO Ht1 Hl1 Hr1]
  · isplitr; · iexact HK
    isplitl [Ht1]; · iexact Ht1
    isplitl [Hl1]; · iexact Hl1
    isplitl [Hr1]; · iexact Hr1
    iexact HO
  iintro HO
  iapply (step_signal m K c 2 2 _ (addr3 c) (by decide) rfl) $$ [HO Ht2 Hl2 Hr2]
  · isplitr; · iexact HK
    isplitl [Ht2]; · iexact Ht2
    isplitl [Hl2]; · iexact Hl2
    isplitl [Hr2]; · iexact Hr2
    iexact HO
  iintro HO
  iapply (step_signal m K c 3 3 _ (addr4 c) (by decide) rfl) $$ [HO Ht3 Hl3 Hr3]
  · isplitr; · iexact HK
    isplitl [Ht3]; · iexact Ht3
    isplitl [Hl3]; · iexact Hl3
    isplitl [Hr3]; · iexact Hr3
    iexact HO
  iintro HO
  iapply (step_signal m K c 4 4 _ (addr5 c) (by decide) rfl) $$ [HO Ht4 Hl4 Hr4]
  · isplitr; · iexact HK
    isplitl [Ht4]; · iexact Ht4
    isplitl [Hl4]; · iexact Hl4
    isplitl [Hr4]; · iexact Hr4
    iexact HO
  iintro HO
  iapply (wp_load 𝒱₀ (c : Thread nD τ) none Set.univ (m := (Memref.whole cc0_stg0_0 : Memref sig .tc .vmem S256x128 .bf16)) (Finset.subset_univ _)) $$ Hx; iintro Hx
  iapply (wp_load 𝒱₀ (c : Thread nD τ) none Set.univ (m := (Memref.whole cc0_stg1_0 : Memref sig .tc .vmem S128x64 .bf16)) (Finset.subset_univ _)) $$ Hr; iintro Hr
  rw [read0, read1, wp_ret]; imodintro
  iapply Hk
  isplitl [HO]; · iexact HO
  isplitl [Hx] <;> iassumption

/-- Part 2: the routing and the two experts come in. -/
theorem part2 (Kt : (Σ' (v53 : FVec F S256x256 .f32) (v62 : FVec F S256x1 .f32), FVec F S256x256 .f32) → sProp 𝕄) :
    iprop(pt c cc0_stg2_0 (X2 m c) ∗ pt c cc0_stg3_0 (X3 m c)
        ∗ ((pt c cc0_stg2_0 (X2 m c) ∗ pt c cc0_stg3_0 (X3 m c)) -∗ Kt ⟨(k0_pay6 (me c) (k0_pay1 (X0 m c)) (k0_pay2 (X0 m c) (X1 m c)) (k0_pay3 (X0 m c) (X1 m c)) (X2 m c) (E0 m c)), (k0_pay7 (me c) (k0_pay2 (X0 m c) (X1 m c)) (k0_pay3 (X0 m c) (X1 m c)) (X2 m c)), (k0_pay8 (k0_pay1 (X0 m c)) (E1 m c))⟩))
      ⊢ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (me c) (k0_pay1 (X0 m c)) (k0_pay2 (X0 m c) (X1 m c)) (k0_pay3 (X0 m c) (X1 m c))) Kt := by
  simp only [k0_part2_eq_skeleton]; unfold k0_part2_skel
  simp only [semSignalWord, semWaitWord, Prog.lift, Prog.bind_op, Prog.bind_ret, Prog.pure_eq_ret, wp_deviceId]
  iintro ⟨Hi, He, Hk⟩
  iapply (wp_load 𝒱₀ (c : Thread nD τ) none Set.univ (m := (Memref.whole cc0_stg2_0 : Memref sig .tc .vmem S256x1 .i32)) (Finset.subset_univ _)) $$ Hi; iintro Hi
  iapply (wp_load 𝒱₀ (c : Thread nD τ) none Set.univ (m := (Memref.whole cc0_stg3_0 : Memref sig .tc .vmem S2x128x256 .bf16)) (Finset.subset_univ _)) $$ He; iintro He
  iapply (wp_load 𝒱₀ (c : Thread nD τ) none Set.univ (m := (Memref.whole cc0_stg3_0 : Memref sig .tc .vmem S2x128x256 .bf16)) (Finset.subset_univ _)) $$ He; iintro He
  rw [read2, read3_0, read3_1, wp_ret]; imodintro
  iapply Hk
  isplitl [Hi] <;> iassumption

set_option maxHeartbeats 1000000 in
/-- Part 3: the product is stored in the first slots, the partners are waited for, the left half's first slot goes. -/
theorem part3 (V V' : Vec F S256x128 .bf16) (Kt : (Σ' (v78 : BitVec 32), BitVec 32) → sProp 𝕄) :
    iprop(known m K ∗ due c 5 ∗ acc false 0 (by decide) fullShare c V ∗ acc true 0 (by decide) fullShare c V' ∗ atPos ER (barC c) 0 ∅ 0 ∗ cred (tallyAt (barC c) () 5) ∗ idle c false 0
        ∗ (∀ r, (due c 6 ∗ sent m c false 0 ∗ acc true 0 (by decide) fullShare c (accV m true 0 c) ∗ semVal (barC c) 0
            ∗ land true 0 (peer true 0 c) ∗ land false 1 (peer false 1 c) ∗ land true 1 (peer true 1 c) ∗ land false 2 (peer false 2 c) ∗ land true 2 (peer true 2 c) ∗ land false 3 (peer false 3 c) ∗ land true 3 (peer true 3 c) ∗ land false 4 (peer false 4 c) ∗ land true 4 (peer true 4 c)) -∗ Kt r))
      ⊢ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c) (SemArray.scalar (sig.barrier 0 rfl) : Sems sig S_) (k0_pay6 (me c) (k0_pay1 (X0 m c)) (k0_pay2 (X0 m c) (X1 m c)) (k0_pay3 (X0 m c) (X1 m c)) (X2 m c) (E0 m c)) (k0_pay7 (me c) (k0_pay2 (X0 m c) (X1 m c)) (k0_pay3 (X0 m c) (X1 m c)) (X2 m c)) (k0_pay8 (k0_pay1 (X0 m c)) (E1 m c))) Kt := by
  simp only [k0_part3_eq_skeleton]; unfold k0_part3_skel
  simp only [semSignalWord, semWaitWord, Prog.lift, Prog.bind_op, Prog.bind_ret, Prog.pure_eq_ret, wp_deviceId]
  iintro ⟨#HK, HO, Ha, Hb, Hat, Hc, Hi, Hk⟩
  unfold acc
  iapply (wp_slot_load (accM false) 0 (inSlot (by decide)) 𝒱₀ c) $$ Ha; iintro Ha
  iapply (wp_slot_store (accM false) 0 (inSlot (by decide)) 𝒱₀ c) $$ Ha; iintro Ha
  iapply (wp_slot_load (accM true) 0 (inSlot (by decide)) 𝒱₀ c) $$ Hb; iintro Hb
  iapply (wp_slot_store (accM true) 0 (inSlot (by decide)) 𝒱₀ c) $$ Hb; iintro Hb
  rw [show drop1 (k0_pay10 (k0_pay6 (me c) (k0_pay1 (X0 m c)) (k0_pay2 (X0 m c) (X1 m c)) (k0_pay3 (X0 m c) (X1 m c)) (X2 m c) (E0 m c)) (k0_pay7 (me c) (k0_pay2 (X0 m c) (X1 m c)) (k0_pay3 (X0 m c) (X1 m c)) (X2 m c)) (k0_pay8 (k0_pay1 (X0 m c)) (E1 m c))) = accV m false 0 c from rfl,
    show drop1 (k0_pay11 (k0_pay6 (me c) (k0_pay1 (X0 m c)) (k0_pay2 (X0 m c) (X1 m c)) (k0_pay3 (X0 m c) (X1 m c)) (X2 m c) (E0 m c)) (k0_pay7 (me c) (k0_pay2 (X0 m c) (X1 m c)) (k0_pay3 (X0 m c) (X1 m c)) (X2 m c)) (k0_pay8 (k0_pay1 (X0 m c)) (E1 m c))) = accV m true 0 c from rfl]
  ihave Ha := (show owns (c : Thread nD τ) (slot (accM false) 0 (inSlot (by decide))) fullShare (accV m false 0 c) ⊢ acc false 0 (by decide : 0 < 6) fullShare c (accV m false 0 c) from .rfl) $$ Ha
  iapply (step_barrier m K c 5 (by decide) (by decide)) $$ [HO Hat Hc]
  · isplitr; · iexact HK
    isplitl [Hat]; · iexact Hat
    isplitl [Hc]; · iexact Hc
    iexact HO
  iintro ⟨HO, Hz, Hl⟩
  ihave Hl := (lands_split c) $$ Hl
  icases Hl with ⟨H0, Hl⟩
  iapply (step_send m K c false 0 5 _ (addr6 c) rfl rfl rfl) $$ [HO Hi H0 Ha]
  · isplitr; · iexact HK
    isplitl [Hi]; · iexact Hi
    isplitl [H0]; · iexact H0
    isplitl [Ha]; · iexact Ha
    iexact HO
  iintro ⟨Hs, HO⟩
  rw [wp_ret]; imodintro
  iapply Hk $$ %_
  isplitl [HO]; · iexact HO
  isplitl [Hs]; · iexact Hs
  isplitl [Hb]; · iexact Hb
  isplitl [Hz] <;> iassumption

set_option maxHeartbeats 1000000 in
/-- Part 4: the right half's first slot goes, the shared expert comes in, the left half's first landing is added. -/
theorem part4 (V : Vec F S256x128 .bf16) (w w' : BitVec 32) (Kt : FVec F S256x256 .f32 → sProp 𝕄) :
    iprop(known m K ∗ due c 6 ∗ acc true 0 (by decide) fullShare c (accV m true 0 c) ∗ idle c true 0 ∗ land true 0 (peer true 0 c) ∗ pt c cc0_stg4_0 (X4 m c) ∗ sent m c false 0 ∗ acc false 1 (by decide) fullShare c V
        ∗ ((due c 7 ∗ sent m c true 0 ∗ pt c cc0_stg4_0 (X4 m c) ∗ got m c false 0 ∗ acc false 1 (by decide) fullShare c (accV m false 1 c)) -∗ Kt (shared m c)))
      ⊢ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (k0_pay1 (X0 m c)) w w') Kt := by
  simp only [k0_part4_eq_skeleton]; unfold k0_part4_skel
  simp only [semSignalWord, semWaitWord, Prog.lift, Prog.bind_op, Prog.bind_ret, Prog.pure_eq_ret, wp_deviceId]
  iintro ⟨#HK, HO, Hb, Hi, Hl, Hw, Hs, Ha, Hk⟩
  iapply (step_send m K c true 0 6 _ (addr7 c) rfl rfl rfl) $$ [HO Hi Hl Hb]
  · isplitr; · iexact HK
    isplitl [Hi]; · iexact Hi
    isplitl [Hl]; · iexact Hl
    isplitl [Hb]; · iexact Hb
    iexact HO
  iintro ⟨Hs', HO⟩
  iapply (wp_load 𝒱₀ (c : Thread nD τ) none Set.univ (m := (Memref.whole cc0_stg4_0 : Memref sig .tc .vmem S128x256 .bf16)) (Finset.subset_univ _)) $$ Hw; iintro Hw
  iapply (step_recv m K c false 0 7 (by decide) rfl) $$ [HO Hs]
  · isplitr; · iexact HK
    isplitl [Hs]; · iexact Hs
    iexact HO
  iintro ⟨Hg, HO⟩
  iapply (step_add m c false 0 V k0_pay13 pay13_eq) $$ [Hg Ha]
  · isplitl [Hg]; · iexact Hg
    iexact Ha
  iintro ⟨Hg, Ha⟩
  rw [read4, wp_ret]; imodintro
  iapply Hk
  isplitl [HO]; · iexact HO
  isplitl [Hs']; · iexact Hs'
  isplitl [Hw]; · iexact Hw
  isplitl [Hg]; · iexact Hg
  iexact Ha

end Parts

end Cert.MoeProof

end
-- ==== Proof.BodyB.lean ====
/-
# The run of a device's body, the other parts

The stages in the middle, the two halves of the result, and the sent slots taken back.
-/
module

public import proofs.«01_k».proof.Proof.BodyA

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-! ## The result's two stores -/

theorem out_written (f : (cc0_stg5_0 : Ref sig .tc).ty.Contents (Elt F)) (w w' : Vec F S256x128 .f32) :
    ((Memref.whole cc0_stg5_0 : Memref sig .tc .vmem S256x256 .f32).access rightR : View sig .tc _ _ _).write (Elt F)
      (((Memref.whole cc0_stg5_0 : Memref sig .tc .vmem S256x256 .f32).access leftR : View sig .tc _ _ _).write (Elt F) f w Finset.univ) w' Finset.univ
      = rightR.overlay (leftR.overlay (fun _ => FloatOps.ofBits .f32 0) w) w' := by
  funext j
  by_cases hr : ∃ i : rightR.shape.Idx, rightR.emb i = j
  · obtain ⟨i, rfl⟩ := hr
    rw [Rect.overlay_emb]
    exact View.write_emb_of_mem _ _ (Finset.mem_univ i)
  have hn : j ∉ rightR.set := fun h => by
    rw [← Rect.map_emb_univ] at h
    obtain ⟨i, -, hi⟩ := Finset.mem_map.1 h
    exact hr ⟨i, hi⟩
  have hl : ∃ i : leftR.shape.Idx, leftR.emb i = j := by
    have h1 : (j 1).val < 128 := by
      by_contra hc
      refine hr ⟨(fun a : Fin 2 => ⟨(![(j 0).val, (j 1).val - 128] : Fin 2 → ℕ) a, ?_⟩ : S256x128.Idx), ?_⟩
      · have h0 : (j 0).val < 256 := (j 0).isLt
        have h1 : (j 1).val < 256 := (j 1).isLt
        fin_cases a
        · exact h0
        · show (j 1).val - 128 < 128; omega
      · funext a; apply Fin.ext; rw [ValueKit.rect_emb_unit_val]
        fin_cases a
        · show 0 + (j 0).val = (j 0).val; omega
        · show 128 + ((j 1).val - 128) = (j 1).val; omega
    refine ⟨(fun a : Fin 2 => ⟨(![(j 0).val, (j 1).val] : Fin 2 → ℕ) a, ?_⟩ : S256x128.Idx), ?_⟩
    · fin_cases a
      · exact (j 0).isLt
      · exact h1
    funext a; apply Fin.ext; rw [ValueKit.rect_emb_unit_val]
    fin_cases a
    · show 0 + (j 0).val = (j 0).val; omega
    · show 0 + (j 1).val = (j 1).val; omega
  rw [Rect.overlay_of_not_mem _ _ _ hn]
  obtain ⟨i, rfl⟩ := hl
  rw [Rect.overlay_emb]
  refine (View.write_of_not_mem _ _ _ ?_).trans (View.write_emb_of_mem _ _ (Finset.mem_univ i))
  intro h
  rw [View.setOn_univ] at h
  obtain ⟨i', -, hi'⟩ := Finset.mem_map.1 h
  exact hr ⟨i', hi'⟩

/-- A half's last landing: its slots beside the rest; and together again. -/
def lastRest (h : Bool) : sProp 𝕄 :=
  iprop(atPos ER (sendC h 4 c) 0 ∅ 0 ∗ cred (tallyAt (sendC h 4 c) () N) ∗ semVal (recvC h 4 c) 0)
theorem last_open (h : Bool) : got m c h 4 ⊢ iprop(lastRest c h ∗ owns (c : Thread nD τ) (slot (accM h) 4 (inSlot (by decide))) fullShare.right (accV m h 4 c)
    ∗ owns (c : Thread nD τ) (slot (comM h) 4 (inSlot (by decide))) fullShare (accV m h 4 (peer h 4 c))) := by
  unfold got lastRest acc com
  iintro ⟨G1, G2, G3, G4, G5⟩
  isplitl [G1 G2 G3]
  · isplitl [G1]; · iexact G1
    isplitl [G2]; · iexact G2
    iexact G3
  isplitl [G4]; · iexact G4
  iexact G5
theorem last_close (h : Bool) : iprop(lastRest c h ∗ owns (c : Thread nD τ) (slot (accM h) 4 (inSlot (by decide))) fullShare.right (accV m h 4 c)
    ∗ owns (c : Thread nD τ) (slot (comM h) 4 (inSlot (by decide))) fullShare (accV m h 4 (peer h 4 c))) ⊢ got m c h 4 := by
  unfold got lastRest acc com
  iintro ⟨⟨G1, G2, G3⟩, G4, G5⟩
  isplitl [G1]; · iexact G1
  isplitl [G2]; · iexact G2
  isplitl [G3]; · iexact G3
  isplitl [G4]; · iexact G4
  iexact G5

section Parts

set_option maxHeartbeats 1000000 in
/-- Part 5: the right half's landing is added, the left half's next slot goes. -/
theorem part5 (V : Vec F S256x128 .bf16) (Kt : (Σ' (w : BitVec 32) (w' : BitVec 32), BitVec 32) → sProp 𝕄) :
    iprop(known m K ∗ due c 7 ∗ sent m c true 0 ∗ acc true 1 (by decide) fullShare c V ∗ idle c false 1 ∗ land false 1 (peer false 1 c) ∗ acc false 1 (by decide) fullShare c (accV m false 1 c)
        ∗ (∀ r, (due c 8 ∗ got m c true 0 ∗ acc true 1 (by decide) fullShare c (accV m true 1 c) ∗ sent m c false 1) -∗ Kt r))
      ⊢ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c)) Kt := by
  simp only [k0_part5_eq_skeleton]; unfold k0_part5_skel
  simp only [semSignalWord, semWaitWord, Prog.lift, Prog.bind_op, Prog.bind_ret, Prog.pure_eq_ret, wp_deviceId]
  iintro ⟨#HK, HO, Hs, Ha, Hi, Hl, Hb, Hk⟩
  iapply (step_recv m K c true 0 7 (by decide) rfl) $$ [HO Hs]
  · isplitr; · iexact HK
    isplitl [Hs]; · iexact Hs
    iexact HO
  iintro ⟨Hg, HO⟩
  iapply (step_add m c true 0 V k0_pay14 pay14_eq) $$ [Hg Ha]
  · isplitl [Hg]; · iexact Hg
    iexact Ha
  iintro ⟨Hg, Ha⟩
  iapply (step_send m K c false 1 7 _ (addr8 c) rfl rfl rfl) $$ [HO Hi Hl Hb]
  · isplitr; · iexact HK
    isplitl [Hi]; · iexact Hi
    isplitl [Hl]; · iexact Hl
    isplitl [Hb]; · iexact Hb
    iexact HO
  iintro ⟨Hs', HO⟩
  rw [wp_ret]; imodintro
  iapply Hk $$ %_
  isplitl [HO]; · iexact HO
  isplitl [Hg]; · iexact Hg
  isplitl [Ha]; · iexact Ha
  iexact Hs'

set_option maxHeartbeats 1000000 in
/-- Part 6: the right half's slot goes, the left half's landing is added. -/
theorem part6 (w w' w'' : BitVec 32) (V : Vec F S256x128 .bf16) (Kt : PUnit → sProp 𝕄) :
    iprop(known m K ∗ due c 8 ∗ sent m c false 1 ∗ acc false 2 (by decide) fullShare c V ∗ idle c true 1 ∗ land true 1 (peer true 1 c) ∗ acc true 1 (by decide) fullShare c (accV m true 1 c)
        ∗ ((due c 9 ∗ got m c false 1 ∗ acc false 2 (by decide) fullShare c (accV m false 2 c) ∗ sent m c true 1) -∗ Kt ⟨⟩))
      ⊢ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c w w' w'') Kt := by
  simp only [k0_part6_eq_skeleton]; unfold k0_part6_skel
  simp only [semSignalWord, semWaitWord, Prog.lift, Prog.bind_op, Prog.bind_ret, Prog.pure_eq_ret, wp_deviceId]
  iintro ⟨#HK, HO, Hs, Ha, Hi, Hl, Hb, Hk⟩
  iapply (step_send m K c true 1 8 _ (addr9 c) rfl rfl rfl) $$ [HO Hi Hl Hb]
  · isplitr; · iexact HK
    isplitl [Hi]; · iexact Hi
    isplitl [Hl]; · iexact Hl
    isplitl [Hb]; · iexact Hb
    iexact HO
  iintro ⟨Hs', HO⟩
  iapply (step_recv m K c false 1 9 (by decide) rfl) $$ [HO Hs]
  · isplitr; · iexact HK
    isplitl [Hs]; · iexact Hs
    iexact HO
  iintro ⟨Hg, HO⟩
  iapply (step_add m c false 1 V k0_pay15 pay15_eq) $$ [Hg Ha]
  · isplitl [Hg]; · iexact Hg
    iexact Ha
  iintro ⟨Hg, Ha⟩
  rw [wp_ret]; imodintro
  iapply Hk
  isplitl [HO]; · iexact HO
  isplitl [Hg]; · iexact Hg
  isplitl [Ha]; · iexact Ha
  iexact Hs'

set_option maxHeartbeats 1000000 in
/-- Part 7: the right half's landing is added, the left half's next slot goes. -/
theorem part7 (V : Vec F S256x128 .bf16) (Kt : (Σ' (w : BitVec 32) (w' : BitVec 32), BitVec 32) → sProp 𝕄) :
    iprop(known m K ∗ due c 9 ∗ sent m c true 1 ∗ acc true 2 (by decide) fullShare c V ∗ idle c false 2 ∗ land false 2 (peer false 2 c) ∗ acc false 2 (by decide) fullShare c (accV m false 2 c)
        ∗ (∀ r, (due c 10 ∗ got m c true 1 ∗ acc true 2 (by decide) fullShare c (accV m true 2 c) ∗ sent m c false 2) -∗ Kt r))
      ⊢ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c)) Kt := by
  simp only [k0_part7_eq_skeleton]; unfold k0_part7_skel
  simp only [semSignalWord, semWaitWord, Prog.lift, Prog.bind_op, Prog.bind_ret, Prog.pure_eq_ret, wp_deviceId]
  iintro ⟨#HK, HO, Hs, Ha, Hi, Hl, Hb, Hk⟩
  iapply (step_recv m K c true 1 9 (by decide) rfl) $$ [HO Hs]
  · isplitr; · iexact HK
    isplitl [Hs]; · iexact Hs
    iexact HO
  iintro ⟨Hg, HO⟩
  iapply (step_add m c true 1 V k0_pay16 pay16_eq) $$ [Hg Ha]
  · isplitl [Hg]; · iexact Hg
    iexact Ha
  iintro ⟨Hg, Ha⟩
  iapply (step_send m K c false 2 9 _ (addr10 c) rfl rfl rfl) $$ [HO Hi Hl Hb]
  · isplitr; · iexact HK
    isplitl [Hi]; · iexact Hi
    isplitl [Hl]; · iexact Hl
    isplitl [Hb]; · iexact Hb
    iexact HO
  iintro ⟨Hs', HO⟩
  rw [wp_ret]; imodintro
  iapply Hk $$ %_
  isplitl [HO]; · iexact HO
  isplitl [Hg]; · iexact Hg
  isplitl [Ha]; · iexact Ha
  iexact Hs'

set_option maxHeartbeats 1000000 in
/-- Part 8: the right half's slot goes, the left half's landing is added. -/
theorem part8 (w w' w'' : BitVec 32) (V : Vec F S256x128 .bf16) (Kt : PUnit → sProp 𝕄) :
    iprop(known m K ∗ due c 10 ∗ sent m c false 2 ∗ acc false 3 (by decide) fullShare c V ∗ idle c true 2 ∗ land true 2 (peer true 2 c) ∗ acc true 2 (by decide) fullShare c (accV m true 2 c)
        ∗ ((due c 11 ∗ got m c false 2 ∗ acc false 3 (by decide) fullShare c (accV m false 3 c) ∗ sent m c true 2) -∗ Kt ⟨⟩))
      ⊢ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c w w' w'') Kt := by
  simp only [k0_part8_eq_skeleton]; unfold k0_part8_skel
  simp only [semSignalWord, semWaitWord, Prog.lift, Prog.bind_op, Prog.bind_ret, Prog.pure_eq_ret, wp_deviceId]
  iintro ⟨#HK, HO, Hs, Ha, Hi, Hl, Hb, Hk⟩
  iapply (step_send m K c true 2 10 _ (addr11 c) rfl rfl rfl) $$ [HO Hi Hl Hb]
  · isplitr; · iexact HK
    isplitl [Hi]; · iexact Hi
    isplitl [Hl]; · iexact Hl
    isplitl [Hb]; · iexact Hb
    iexact HO
  iintro ⟨Hs', HO⟩
  iapply (step_recv m K c false 2 11 (by decide) rfl) $$ [HO Hs]
  · isplitr; · iexact HK
    isplitl [Hs]; · iexact Hs
    iexact HO
  iintro ⟨Hg, HO⟩
  iapply (step_add m c false 2 V k0_pay17 pay17_eq) $$ [Hg Ha]
  · isplitl [Hg]; · iexact Hg
    iexact Ha
  iintro ⟨Hg, Ha⟩
  rw [wp_ret]; imodintro
  iapply Hk
  isplitl [HO]; · iexact HO
  isplitl [Hg]; · iexact Hg
  isplitl [Ha]; · iexact Ha
  iexact Hs'

set_option maxHeartbeats 1000000 in
/-- Part 9: the right half's landing is added, the left half's next slot goes. -/
theorem part9 (V : Vec F S256x128 .bf16) (Kt : (Σ' (w : BitVec 32) (w' : BitVec 32), BitVec 32) → sProp 𝕄) :
    iprop(known m K ∗ due c 11 ∗ sent m c true 2 ∗ acc true 3 (by decide) fullShare c V ∗ idle c false 3 ∗ land false 3 (peer false 3 c) ∗ acc false 3 (by decide) fullShare c (accV m false 3 c)
        ∗ (∀ r, (due c 12 ∗ got m c true 2 ∗ acc true 3 (by decide) fullShare c (accV m true 3 c) ∗ sent m c false 3) -∗ Kt r))
      ⊢ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c)) Kt := by
  simp only [k0_part9_eq_skeleton]; unfold k0_part9_skel
  simp only [semSignalWord, semWaitWord, Prog.lift, Prog.bind_op, Prog.bind_ret, Prog.pure_eq_ret, wp_deviceId]
  iintro ⟨#HK, HO, Hs, Ha, Hi, Hl, Hb, Hk⟩
  iapply (step_recv m K c true 2 11 (by decide) rfl) $$ [HO Hs]
  · isplitr; · iexact HK
    isplitl [Hs]; · iexact Hs
    iexact HO
  iintro ⟨Hg, HO⟩
  iapply (step_add m c true 2 V k0_pay18 pay18_eq) $$ [Hg Ha]
  · isplitl [Hg]; · iexact Hg
    iexact Ha
  iintro ⟨Hg, Ha⟩
  iapply (step_send m K c false 3 11 _ (addr12 c) rfl rfl rfl) $$ [HO Hi Hl Hb]
  · isplitr; · iexact HK
    isplitl [Hi]; · iexact Hi
    isplitl [Hl]; · iexact Hl
    isplitl [Hb]; · iexact Hb
    iexact HO
  iintro ⟨Hs', HO⟩
  rw [wp_ret]; imodintro
  iapply Hk $$ %_
  isplitl [HO]; · iexact HO
  isplitl [Hg]; · iexact Hg
  isplitl [Ha]; · iexact Ha
  iexact Hs'

set_option maxHeartbeats 1000000 in
/-- Part 10: the right half's slot goes, the left half's landing is added. -/
theorem part10 (w w' w'' : BitVec 32) (V : Vec F S256x128 .bf16) (Kt : PUnit → sProp 𝕄) :
    iprop(known m K ∗ due c 12 ∗ sent m c false 3 ∗ acc false 4 (by decide) fullShare c V ∗ idle c true 3 ∗ land true 3 (peer true 3 c) ∗ acc true 3 (by decide) fullShare c (accV m true 3 c)
        ∗ ((due c 13 ∗ got m c false 3 ∗ acc false 4 (by decide) fullShare c (accV m false 4 c) ∗ sent m c true 3) -∗ Kt ⟨⟩))
      ⊢ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c w w' w'') Kt := by
  simp only [k0_part10_eq_skeleton]; unfold k0_part10_skel
  simp only [semSignalWord, semWaitWord, Prog.lift, Prog.bind_op, Prog.bind_ret, Prog.pure_eq_ret, wp_deviceId]
  iintro ⟨#HK, HO, Hs, Ha, Hi, Hl, Hb, Hk⟩
  iapply (step_send m K c true 3 12 _ (addr13 c) rfl rfl rfl) $$ [HO Hi Hl Hb]
  · isplitr; · iexact HK
    isplitl [Hi]; · iexact Hi
    isplitl [Hl]; · iexact Hl
    isplitl [Hb]; · iexact Hb
    iexact HO
  iintro ⟨Hs', HO⟩
  iapply (step_recv m K c false 3 13 (by decide) rfl) $$ [HO Hs]
  · isplitr; · iexact HK
    isplitl [Hs]; · iexact Hs
    iexact HO
  iintro ⟨Hg, HO⟩
  iapply (step_add m c false 3 V k0_pay19 pay19_eq) $$ [Hg Ha]
  · isplitl [Hg]; · iexact Hg
    iexact Ha
  iintro ⟨Hg, Ha⟩
  rw [wp_ret]; imodintro
  iapply Hk
  isplitl [HO]; · iexact HO
  isplitl [Hg]; · iexact Hg
  isplitl [Ha]; · iexact Ha
  iexact Hs'

set_option maxHeartbeats 1000000 in
/-- Part 11: the right half's landing is added, the left half's next slot goes. -/
theorem part11 (V : Vec F S256x128 .bf16) (Kt : (Σ' (w : BitVec 32) (w' : BitVec 32), BitVec 32) → sProp 𝕄) :
    iprop(known m K ∗ due c 13 ∗ sent m c true 3 ∗ acc true 4 (by decide) fullShare c V ∗ idle c false 4 ∗ land false 4 (peer false 4 c) ∗ acc false 4 (by decide) fullShare c (accV m false 4 c)
        ∗ (∀ r, (due c 14 ∗ got m c true 3 ∗ acc true 4 (by decide) fullShare c (accV m true 4 c) ∗ sent m c false 4) -∗ Kt r))
      ⊢ wp frame (wpE (defs₀ (F := F)) 𝒱₀ (c : Thread nD τ) none) Set.univ (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c)) Kt := by
  simp only [k0_part11_eq_skeleton]; unfold k0_part11_skel
  simp only [semSignalWord, semWaitWord, Prog.lift, Prog.bind_op, Prog.bind_ret, Prog.pure_eq_ret, wp_deviceId]
  iintro ⟨#HK, HO, Hs, Ha, Hi, Hl, Hb, Hk⟩
  iapply (step_recv m K c true 3 13 (by decide) rfl) $$ [HO Hs]
  · isplitr; · iexact HK
    isplitl [Hs]; · iexact Hs
    iexact HO
  iintro ⟨Hg, HO⟩
  iapply (step_add m c true 3 V k0_pay20 pay20_eq) $$ [Hg Ha]
  · isplitl [Hg]; · iexact Hg
    iexact Ha
  iintro ⟨Hg, Ha⟩
  iapply (step_send m K c false 4 13 _ (addr14 c) rfl rfl rfl) $$ [HO Hi Hl Hb]
  · isplitr; · iexact HK
    isplitl [Hi]; · iexact Hi
    isplitl [Hl]; · iexact Hl
    isplitl [Hb]; · iexact Hb
    iexact HO
  iintro ⟨Hs', HO⟩
  rw [wp_ret]; imodintro
  iapply Hk $$ %_
  isplitl [HO]; · iexact HO
  isplitl [Hg]; · iexact Hg
  isplitl [Ha]; · iexact Ha
  iexact Hs'

set_option maxHeartbeats 1000000 in
/-- Part 12: the right half's last slot goes; the left half's last landing makes the left half of the result. -/
theorem part12 (w w' w'' : BitVec 32) (f : (cc0_stg5_0 : Ref sig .tc).ty.Contents (Elt F)) (Kt : (Σ' (w : BitVec 32), BitVec 32) → sProp 𝕄) :
    iprop(known m K ∗ due c 14 ∗ sent m c false 4 ∗ idle c true 4 ∗ land true 4 (peer true 4 c) ∗ acc true 4 (by decide) fullShare c (accV m true 4 c) ∗ pt c cc0_stg5_0 f
        ∗ (∀ r, (due c 15 ∗ got m c false 4 ∗ sent m c true 4 ∗ pt c cc0_stg5_0 (((Memref.whole cc0_stg5_0 : Memref sig .tc .vmem S256x256 .f32).access leftR : View sig .tc _ _ _).write (Elt F) f (leftV m c) Finset.univ)) -∗ Kt r))
      ⊢ wp frame (wpE (defs₀ (F := F)) 𝒱₀ (c : Thread nD τ) none) Set.univ (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (shared m c) w w' w'') Kt := by
  simp only [k0_part12_eq_skeleton]; unfold k0_part12_skel
  simp only [semSignalWord, semWaitWord, Prog.lift, Prog.bind_op, Prog.bind_ret, Prog.pure_eq_ret, wp_deviceId]
  iintro ⟨#HK, HO, Hs, Hi, Hl, Hb, Hout, Hk⟩
  iapply (step_send m K c true 4 14 _ (addr15 c) rfl rfl rfl) $$ [HO Hi Hl Hb]
  · isplitr; · iexact HK
    isplitl [Hi]; · iexact Hi
    isplitl [Hl]; · iexact Hl
    isplitl [Hb]; · iexact Hb
    iexact HO
  iintro ⟨Hs', HO⟩
  iapply (step_recv m K c false 4 15 (by decide) rfl) $$ [HO Hs]
  · isplitr; · iexact HK
    isplitl [Hs]; · iexact Hs
    iexact HO
  iintro ⟨Hg, HO⟩
  ihave Hg := (last_open m c false) $$ Hg
  icases Hg with ⟨Hg', G4, G5⟩
  iapply (wp_slot_load (accM false) 4 (inSlot (by decide)) 𝒱₀ c) $$ G4; iintro G4
  iapply (wp_slot_load (comM false) 4 (inSlot (by decide)) 𝒱₀ c) $$ G5; iintro G5
  iapply (wp_load_rect 𝒱₀ (c : Thread nD τ) none Set.univ (m := (Memref.whole cc0_stg5_0 : Memref sig .tc .vmem S256x256 .f32)) (r := leftR) (Finset.subset_univ _)) $$ Hout; iintro Hout
  iapply (wp_store 𝒱₀ (c : Thread nD τ) none Set.univ (m := (Memref.whole cc0_stg5_0 : Memref sig .tc .vmem S256x256 .f32)) (r := leftR) (Mk := Finset.univ) (Finset.subset_univ _)) $$ Hout; iintro Hout
  rw [wp_ret]; imodintro
  iapply Hk $$ %_
  isplitl [HO]; · iexact HO
  isplitl [Hg' G4 G5]
  · iapply (last_close m c false)
    isplitl [Hg']; · iexact Hg'
    isplitl [G4]; · iexact G4
    iexact G5
  isplitl [Hs']; · iexact Hs'
  iexact Hout

set_option maxHeartbeats 1000000 in
/-- Part 13: the right half's last landing makes the right half of the result; the left half's first slot comes back. -/
theorem part13 (w w' : BitVec 32) (f : (cc0_stg5_0 : Ref sig .tc).ty.Contents (Elt F)) (Kt : PUnit → sProp 𝕄) :
    iprop(known m K ∗ due c 15 ∗ sent m c true 4 ∗ got m c false 0 ∗ pt c cc0_stg5_0 (((Memref.whole cc0_stg5_0 : Memref sig .tc .vmem S256x256 .f32).access leftR : View sig .tc _ _ _).write (Elt F) f (leftV m c) Finset.univ)
        ∗ ((due c 15 ∗ got m c true 4 ∗ over m c false 0 ∗ pt c cc0_stg5_0 (outV m c)) -∗ Kt ⟨⟩))
      ⊢ wp frame (wpE (defs₀ (F := F)) 𝒱₀ (c : Thread nD τ) none) Set.univ (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (shared m c) w w') Kt := by
  simp only [k0_part13_eq_skeleton]; unfold k0_part13_skel
  simp only [semSignalWord, semWaitWord, Prog.lift, Prog.bind_op, Prog.bind_ret, Prog.pure_eq_ret, wp_deviceId]
  iintro ⟨#HK, HO, Hs, H0, Hout, Hk⟩
  iapply (step_recv m K c true 4 15 (by decide) rfl) $$ [HO Hs]
  · isplitr; · iexact HK
    isplitl [Hs]; · iexact Hs
    iexact HO
  iintro ⟨Hg, HO⟩
  ihave Hg := (last_open m c true) $$ Hg
  icases Hg with ⟨Hg', G4, G5⟩
  iapply (wp_slot_load (accM true) 4 (inSlot (by decide)) 𝒱₀ c) $$ G4; iintro G4
  iapply (wp_slot_load (comM true) 4 (inSlot (by decide)) 𝒱₀ c) $$ G5; iintro G5
  iapply (wp_load_rect 𝒱₀ (c : Thread nD τ) none Set.univ (m := (Memref.whole cc0_stg5_0 : Memref sig .tc .vmem S256x256 .f32)) (r := rightR) (Finset.subset_univ _)) $$ Hout; iintro Hout
  iapply (wp_store 𝒱₀ (c : Thread nD τ) none Set.univ (m := (Memref.whole cc0_stg5_0 : Memref sig .tc .vmem S256x256 .f32)) (r := rightR) (Mk := Finset.univ) (Finset.subset_univ _)) $$ Hout; iintro Hout
  iapply (step_back m K c false 0 15 (by decide) rfl) $$ [HO H0]
  · isplitr; · iexact HK
    isplitl [H0]; · iexact H0
    iexact HO
  iintro ⟨H0, HO⟩
  rw [wp_ret]; imodintro
  iapply Hk
  isplitl [HO]; · iexact HO
  isplitl [Hg' G4 G5]
  · iapply (last_close m c true)
    isplitl [Hg']; · iexact Hg'
    isplitl [G4]; · iexact G4
    iexact G5
  isplitl [H0]; · iexact H0
  iapply (Entails.of_eq (congrArg (pt c cc0_stg5_0) (out_written f (leftV m c) (rightV m c)))); iexact Hout

/-- Part 14: four slots come back. -/
theorem part14 (Kt : PUnit → sProp 𝕄) :
    iprop(known m K ∗ due c 15 ∗ got m c true 0 ∗ got m c false 1 ∗ got m c true 1 ∗ got m c false 2 ∗ ((due c 15 ∗ over m c true 0 ∗ over m c false 1 ∗ over m c true 1 ∗ over m c false 2) -∗ Kt ⟨⟩))
      ⊢ wp frame (wpE (defs₀ (F := F)) 𝒱₀ (c : Thread nD τ) none) Set.univ (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  simp only [k0_part14_eq_skeleton]; unfold k0_part14_skel
  simp only [semSignalWord, semWaitWord, Prog.lift, Prog.bind_op, Prog.bind_ret, Prog.pure_eq_ret, wp_deviceId]
  iintro ⟨#HK, HO, H0, H1, H2, H3, Hk⟩
  iapply (step_back m K c true 0 15 (by decide) rfl) $$ [HO H0]
  · isplitr; · iexact HK
    isplitl [H0]; · iexact H0
    iexact HO
  iintro ⟨H0, HO⟩
  iapply (step_back m K c false 1 15 (by decide) rfl) $$ [HO H1]
  · isplitr; · iexact HK
    isplitl [H1]; · iexact H1
    iexact HO
  iintro ⟨H1, HO⟩
  iapply (step_back m K c true 1 15 (by decide) rfl) $$ [HO H2]
  · isplitr; · iexact HK
    isplitl [H2]; · iexact H2
    iexact HO
  iintro ⟨H2, HO⟩
  iapply (step_back m K c false 2 15 (by decide) rfl) $$ [HO H3]
  · isplitr; · iexact HK
    isplitl [H3]; · iexact H3
    iexact HO
  iintro ⟨H3, HO⟩
  rw [wp_ret]; imodintro
  iapply Hk
  isplitl [HO]; · iexact HO
  isplitl [H0]; · iexact H0
  isplitl [H1]; · iexact H1
  isplitl [H2]; · iexact H2
  iexact H3

/-- Part 15: four slots come back. -/
theorem part15 (Kt : PUnit → sProp 𝕄) :
    iprop(known m K ∗ due c 15 ∗ got m c true 2 ∗ got m c false 3 ∗ got m c true 3 ∗ got m c false 4 ∗ ((due c 15 ∗ over m c true 2 ∗ over m c false 3 ∗ over m c true 3 ∗ over m c false 4) -∗ Kt ⟨⟩))
      ⊢ wp frame (wpE (defs₀ (F := F)) 𝒱₀ (c : Thread nD τ) none) Set.univ (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  simp only [k0_part15_eq_skeleton]; unfold k0_part15_skel
  simp only [semSignalWord, semWaitWord, Prog.lift, Prog.bind_op, Prog.bind_ret, Prog.pure_eq_ret, wp_deviceId]
  iintro ⟨#HK, HO, H0, H1, H2, H3, Hk⟩
  iapply (step_back m K c true 2 15 (by decide) rfl) $$ [HO H0]
  · isplitr; · iexact HK
    isplitl [H0]; · iexact H0
    iexact HO
  iintro ⟨H0, HO⟩
  iapply (step_back m K c false 3 15 (by decide) rfl) $$ [HO H1]
  · isplitr; · iexact HK
    isplitl [H1]; · iexact H1
    iexact HO
  iintro ⟨H1, HO⟩
  iapply (step_back m K c true 3 15 (by decide) rfl) $$ [HO H2]
  · isplitr; · iexact HK
    isplitl [H2]; · iexact H2
    iexact HO
  iintro ⟨H2, HO⟩
  iapply (step_back m K c false 4 15 (by decide) rfl) $$ [HO H3]
  · isplitr; · iexact HK
    isplitl [H3]; · iexact H3
    iexact HO
  iintro ⟨H3, HO⟩
  rw [wp_ret]; imodintro
  iapply Hk
  isplitl [HO]; · iexact HO
  isplitl [H0]; · iexact H0
  isplitl [H1]; · iexact H1
  isplitl [H2]; · iexact H2
  iexact H3

end Parts

end Cert.MoeProof

end
-- ==== Proof.BodyC.lean ====
/-
# The run of a device's whole body

The parts one after the other, from the device's blocks, slots, positions and tokens to its result.
-/
module

public import proofs.«01_k».proof.Proof.BodyB

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-! ## Whole buffers and their slots -/

theorem accs_open (h : Bool) : iprop(∃ X, owns (c : Thread nD τ) (accM h) fullShare X)
    ⊢ (iprop((∃ V, acc (F := F) h 0 (by decide) fullShare c V) ∗ (∃ V, acc (F := F) h 1 (by decide) fullShare c V) ∗ (∃ V, acc (F := F) h 2 (by decide) fullShare c V) ∗ (∃ V, acc (F := F) h 3 (by decide) fullShare c V) ∗ (∃ V, acc (F := F) h 4 (by decide) fullShare c V) ∗ (∃ V, acc (F := F) h 5 (by decide) fullShare c V)) : sProp 𝕄) := by
  refine (show _ ⊢ (bigSep Finset.univ fun t : Fin 6 => iprop(∃ V, owns (c : Thread nD τ) (slot (accM h) t.val (inSlot t.isLt)) fullShare V) : sProp 𝕄) from ?_).trans ?_
  · iintro ⟨%X, H⟩
    iapply (slots_split c (accM h) X); iexact H
  rw [bigSep_univ_eq_bigSepL [(0 : Fin 6), 1, 2, 3, 4, 5] (by decide) (by decide)]
  exact .rfl

theorem accs_close (h : Bool) : (iprop((∃ V, acc (F := F) h 0 (by decide) fullShare c V) ∗ (∃ V, acc (F := F) h 1 (by decide) fullShare c V) ∗ (∃ V, acc (F := F) h 2 (by decide) fullShare c V) ∗ (∃ V, acc (F := F) h 3 (by decide) fullShare c V) ∗ (∃ V, acc (F := F) h 4 (by decide) fullShare c V) ∗ (∃ V, acc (F := F) h 5 (by decide) fullShare c V)) : sProp 𝕄)
    ⊢ iprop(∃ X, owns (c : Thread nD τ) (accM h) fullShare X) := by
  refine (show _ ⊢ _ from ?_).trans (slots_join c (accM h))
  rw [bigSep_univ_eq_bigSepL [(0 : Fin 6), 1, 2, 3, 4, 5] (by decide) (by decide)]
  exact .rfl

theorem coms_open_left : iprop(∃ X, owns (c : Thread nD τ) (comM false) fullShare X)
    ⊢ (iprop(land false 0 c ∗ land false 1 c ∗ land false 2 c ∗ land false 3 c ∗ land false 4 c) : sProp 𝕄) := by
  refine (show _ ⊢ (bigSep Finset.univ fun t : Fin 5 => iprop(∃ V, owns (c : Thread nD τ) (slot (comM false) t.val (inSlot t.isLt)) fullShare V) : sProp 𝕄) from ?_).trans ?_
  · iintro ⟨%X, H⟩
    iapply (slots_split c (comM false) X); iexact H
  rw [bigSep_univ_eq_bigSepL [(0 : Fin 5), (1 : Fin 5), (2 : Fin 5), (3 : Fin 5), (4 : Fin 5)] (by decide) (by decide)]
  exact .rfl

theorem coms_open_right : iprop(∃ X, owns (c : Thread nD τ) (comM true) fullShare X)
    ⊢ (iprop(land true (sig5 0) c ∗ land true (sig5 1) c ∗ land true (sig5 2) c ∗ land true (sig5 3) c ∗ land true (sig5 4) c) : sProp 𝕄) := by
  refine (show _ ⊢ (bigSep Finset.univ fun t : Fin 5 => iprop(∃ V, owns (c : Thread nD τ) (slot (comM true) t.val (inSlot t.isLt)) fullShare V) : sProp 𝕄) from ?_).trans ?_
  · iintro ⟨%X, H⟩
    iapply (slots_split c (comM true) X); iexact H
  rw [bigSep_univ_eq_bigSepL [(2 : Fin 5), (0 : Fin 5), (1 : Fin 5), (4 : Fin 5), (3 : Fin 5)] (by decide) (by decide)]
  exact .rfl

theorem coms_close (h : Bool) : (iprop(land h 0 c ∗ land h 1 c ∗ land h 2 c ∗ land h 3 c ∗ land h 4 c) : sProp 𝕄)
    ⊢ iprop(∃ X, owns (c : Thread nD τ) (comM h) fullShare X) := by
  refine (show _ ⊢ _ from ?_).trans (slots_join c (comM h))
  rw [bigSep_univ_eq_bigSepL [(0 : Fin 5), 1, 2, 3, 4] (by decide) (by decide)]
  exact .rfl

/-! ## The body -/

/-- What a device starts with beside its blocks: its tokens at its partners' barriers, its landing slots, its accumulators' slots, its
positions; and what its exchanges start with. -/
def tokens : sProp 𝕄 := iprop(dutyTok ER (barC (peer false 0 c)) 0 0 ∗ dutyTok ER (barC (peer false 1 c)) 0 1 ∗ dutyTok ER (barC (peer false 2 c)) 0 2 ∗ dutyTok ER (barC (peer false 3 c)) 0 3 ∗ dutyTok ER (barC (peer false 4 c)) 0 4)
def idles : sProp 𝕄 := iprop(idle c false 0 ∗ idle c true 0 ∗ idle c false 1 ∗ idle c true 1 ∗ idle c false 2 ∗ idle c true 2 ∗ idle c false 3 ∗ idle c true 3 ∗ idle c false 4 ∗ idle c true 4)
def overs : sProp 𝕄 := iprop(over m c false 0 ∗ over m c true 0 ∗ over m c false 1 ∗ over m c true 1 ∗ over m c false 2 ∗ over m c true 2 ∗ over m c false 3 ∗ over m c true 3 ∗ over m c false 4 ∗ over m c true 4)
def blocks : sProp 𝕄 := iprop(pt c cc0_stg0_0 (X0 m c) ∗ pt c cc0_stg1_0 (X1 m c) ∗ pt c cc0_stg2_0 (X2 m c) ∗ pt c cc0_stg3_0 (X3 m c) ∗ pt c cc0_stg4_0 (X4 m c))
def scratch : sProp 𝕄 := iprop((∃ X, owns (c : Thread nD τ) (accM false) fullShare X) ∗ (∃ X, owns (c : Thread nD τ) (accM true) fullShare X)
  ∗ (∃ X, owns (c : Thread nD τ) (comM false) fullShare X) ∗ (∃ X, owns (c : Thread nD τ) (comM true) fullShare X))
/-- The slots nothing is ever stored in. -/
def spare : sProp 𝕄 := iprop((∃ V, acc (F := F) false 5 (by decide) fullShare c V) ∗ (∃ V, acc (F := F) true 5 (by decide) fullShare c V))

set_option maxHeartbeats 4000000 in
theorem body_run (f : (cc0_stg5_0 : Ref sig .tc).ty.Contents (Elt F)) (Kt : PUnit → sProp 𝕄) :
    iprop(known m K ∗ due c 0 ∗ blocks m c ∗ pt c cc0_stg5_0 f ∗ scratch c ∗ tokens c ∗ idles c ∗ atPos ER (barC c) 0 ∅ 0 ∗ cred (tallyAt (barC c) () 5)
        ∗ ((due c 15 ∗ blocks m c ∗ pt c cc0_stg5_0 (outV m c) ∗ semVal (barC c) 0 ∗ overs m c ∗ spare c) -∗ Kt ⟨⟩))
      ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  simp only [cc0_body_eq_skeleton]; unfold cc0_body_skel blocks scratch tokens idles
  iintro ⟨#HK, HO, ⟨B0, B1, B2, B3, B4⟩, B5, ⟨SA, SB, SC, SD⟩, ⟨T0, T1, T2, T3, T4⟩, ⟨If0, It0, If1, It1, If2, It2, If3, It3, If4, It4⟩, Hat, Hc, Hk⟩
  ihave SA := (accs_open c false) $$ SA
  icases SA with ⟨⟨%a0, A0⟩, ⟨%a1, A1⟩, ⟨%a2, A2⟩, ⟨%a3, A3⟩, ⟨%a4, A4⟩, A5⟩
  ihave SB := (accs_open c true) $$ SB
  icases SB with ⟨⟨%b0, R0⟩, ⟨%b1, R1⟩, ⟨%b2, R2⟩, ⟨%b3, R3⟩, ⟨%b4, R4⟩, R5⟩
  ihave SC := (coms_open_left c) $$ SC
  icases SC with ⟨C0, C1, C2, C3, C4⟩
  ihave SD := (coms_open_right c) $$ SD
  icases SD with ⟨D0, D1, D2, D3, D4⟩
  rw [wp_bind]
  iapply (part1 m K c _)
  isplitr; · iexact HK
  isplitl [HO]; · iexact HO
  isplitl [B0]; · iexact B0
  isplitl [B1]; · iexact B1
  isplitl [T0]; · iexact T0
  isplitl [C0]; · iexact C0
  isplitl [D0]; · iexact D0
  isplitl [T1]; · iexact T1
  isplitl [C1]; · iexact C1
  isplitl [D1]; · iexact D1
  isplitl [T2]; · iexact T2
  isplitl [C2]; · iexact C2
  isplitl [D2]; · iexact D2
  isplitl [T3]; · iexact T3
  isplitl [C3]; · iexact C3
  isplitl [D3]; · iexact D3
  isplitl [T4]; · iexact T4
  isplitl [C4]; · iexact C4
  isplitl [D4]; · iexact D4
  iintro ⟨HO, B0, B1⟩
  rw [wp_bind]
  iapply (part2 m c _)
  isplitl [B2]; · iexact B2
  isplitl [B3]; · iexact B3
  iintro ⟨B2, B3⟩
  rw [wp_bind]
  iapply (part3 m K c a0 b0 _)
  isplitr; · iexact HK
  isplitl [HO]; · iexact HO
  isplitl [A0]; · iexact A0
  isplitl [R0]; · iexact R0
  isplitl [Hat]; · iexact Hat
  isplitl [Hc]; · iexact Hc
  isplitl [If0]; · iexact If0
  iintro %r3 ⟨HO, Hs, R0, Hz, Lt0, Lf1, Lt1, Lf2, Lt2, Lf3, Lt3, Lf4, Lt4⟩
  obtain ⟨r3a, r3b⟩ := r3
  rw [wp_bind]
  iapply (part4 m K c a1 _ _ _)
  isplitr; · iexact HK
  isplitl [HO]; · iexact HO
  isplitl [R0]; · iexact R0
  isplitl [It0]; · iexact It0
  isplitl [Lt0]; · iexact Lt0
  isplitl [B4]; · iexact B4
  isplitl [Hs]; · iexact Hs
  isplitl [A1]; · iexact A1
  iintro ⟨HO, Hs, B4, Gf0, A1⟩
  rw [wp_bind]
  iapply (part5 m K c b1 _)
  isplitr; · iexact HK
  isplitl [HO]; · iexact HO
  isplitl [Hs]; · iexact Hs
  isplitl [R1]; · iexact R1
  isplitl [If1]; · iexact If1
  isplitl [Lf1]; · iexact Lf1
  isplitl [A1]; · iexact A1
  iintro %r5 ⟨HO, Gt0, R1, Hs⟩
  obtain ⟨r5a, r5b, r5c⟩ := r5
  rw [wp_bind]
  iapply (part6 m K c _ _ _ a2 _)
  isplitr; · iexact HK
  isplitl [HO]; · iexact HO
  isplitl [Hs]; · iexact Hs
  isplitl [A2]; · iexact A2
  isplitl [It1]; · iexact It1
  isplitl [Lt1]; · iexact Lt1
  isplitl [R1]; · iexact R1
  iintro ⟨HO, Gf1, A2, Hs⟩
  rw [wp_bind]
  iapply (part7 m K c b2 _)
  isplitr; · iexact HK
  isplitl [HO]; · iexact HO
  isplitl [Hs]; · iexact Hs
  isplitl [R2]; · iexact R2
  isplitl [If2]; · iexact If2
  isplitl [Lf2]; · iexact Lf2
  isplitl [A2]; · iexact A2
  iintro %r7 ⟨HO, Gt1, R2, Hs⟩
  obtain ⟨r7a, r7b, r7c⟩ := r7
  rw [wp_bind]
  iapply (part8 m K c _ _ _ a3 _)
  isplitr; · iexact HK
  isplitl [HO]; · iexact HO
  isplitl [Hs]; · iexact Hs
  isplitl [A3]; · iexact A3
  isplitl [It2]; · iexact It2
  isplitl [Lt2]; · iexact Lt2
  isplitl [R2]; · iexact R2
  iintro ⟨HO, Gf2, A3, Hs⟩
  rw [wp_bind]
  iapply (part9 m K c b3 _)
  isplitr; · iexact HK
  isplitl [HO]; · iexact HO
  isplitl [Hs]; · iexact Hs
  isplitl [R3]; · iexact R3
  isplitl [If3]; · iexact If3
  isplitl [Lf3]; · iexact Lf3
  isplitl [A3]; · iexact A3
  iintro %r9 ⟨HO, Gt2, R3, Hs⟩
  obtain ⟨r9a, r9b, r9c⟩ := r9
  rw [wp_bind]
  iapply (part10 m K c _ _ _ a4 _)
  isplitr; · iexact HK
  isplitl [HO]; · iexact HO
  isplitl [Hs]; · iexact Hs
  isplitl [A4]; · iexact A4
  isplitl [It3]; · iexact It3
  isplitl [Lt3]; · iexact Lt3
  isplitl [R3]; · iexact R3
  iintro ⟨HO, Gf3, A4, Hs⟩
  rw [wp_bind]
  iapply (part11 m K c b4 _)
  isplitr; · iexact HK
  isplitl [HO]; · iexact HO
  isplitl [Hs]; · iexact Hs
  isplitl [R4]; · iexact R4
  isplitl [If4]; · iexact If4
  isplitl [Lf4]; · iexact Lf4
  isplitl [A4]; · iexact A4
  iintro %r11 ⟨HO, Gt3, R4, Hs⟩
  obtain ⟨r11a, r11b, r11c⟩ := r11
  rw [wp_bind]
  iapply (part12 m K c _ _ _ f _)
  isplitr; · iexact HK
  isplitl [HO]; · iexact HO
  isplitl [Hs]; · iexact Hs
  isplitl [It4]; · iexact It4
  isplitl [Lt4]; · iexact Lt4
  isplitl [R4]; · iexact R4
  isplitl [B5]; · iexact B5
  iintro %r12 ⟨HO, Gf4, Hs, B5⟩
  obtain ⟨r12a, r12b⟩ := r12
  rw [wp_bind]
  iapply (part13 m K c _ _ f _)
  isplitr; · iexact HK
  isplitl [HO]; · iexact HO
  isplitl [Hs]; · iexact Hs
  isplitl [Gf0]; · iexact Gf0
  isplitl [B5]; · iexact B5
  iintro ⟨HO, Gt4, Gf0, B5⟩
  rw [wp_bind]
  iapply (part14 m K c _)
  isplitr; · iexact HK
  isplitl [HO]; · iexact HO
  isplitl [Gt0]; · iexact Gt0
  isplitl [Gf1]; · iexact Gf1
  isplitl [Gt1]; · iexact Gt1
  isplitl [Gf2]; · iexact Gf2
  iintro ⟨HO, Gt0, Gf1, Gt1, Gf2⟩
  rw [wp_bind]
  iapply (part15 m K c _)
  isplitr; · iexact HK
  isplitl [HO]; · iexact HO
  isplitl [Gt2]; · iexact Gt2
  isplitl [Gf3]; · iexact Gf3
  isplitl [Gt3]; · iexact Gt3
  isplitl [Gf4]; · iexact Gf4
  iintro ⟨HO, Gt2, Gf3, Gt3, Gf4⟩
  simp only [Prog.lift, Prog.bind_op, Prog.bind_ret, Prog.pure_eq_ret]
  iapply (step_back m K c true 4 15 (by decide) rfl) $$ [HO Gt4]
  · isplitr; · iexact HK
    isplitl [Gt4]; · iexact Gt4
    iexact HO
  iintro ⟨Gt4, HO⟩
  rw [wp_ret]; imodintro
  iapply Hk
  isplitl [HO]; · iexact HO
  isplitl [B0 B1 B2 B3 B4]
  · isplitl [B0]; · iexact B0
    isplitl [B1]; · iexact B1
    isplitl [B2]; · iexact B2
    isplitl [B3]; · iexact B3
    iexact B4
  isplitl [B5]; · iexact B5
  isplitl [Hz]; · iexact Hz
  unfold overs spare
  isplitr [A5 R5]
  · isplitl [Gf0]; · iexact Gf0
    isplitl [Gt0]; · iexact Gt0
    isplitl [Gf1]; · iexact Gf1
    isplitl [Gt1]; · iexact Gt1
    isplitl [Gf2]; · iexact Gf2
    isplitl [Gt2]; · iexact Gt2
    isplitl [Gf3]; · iexact Gf3
    isplitl [Gt3]; · iexact Gt3
    isplitl [Gf4]; · iexact Gf4
    iexact Gt4
  isplitl [A5]; · iexact A5
  iexact R5

/-! ## Afterwards -/

/-- An exchange that is over has both its slots, at some value, and both its cells at zero. -/
theorem over_slots (h : Bool) (s : Fin 5) : over m c h s
    ⊢ iprop((∃ V, acc (F := F) h s.val (s6 s) fullShare c V) ∗ land h s c ∗ semVal (sendC h s c) 0 ∗ semVal (recvC h s c) 0) := by
  unfold over land
  iintro ⟨H1, H2, H3, H4⟩
  isplitl [H3]; · iexists _; iexact H3
  isplitl [H4]; · iexists _; iexact H4
  isplitl [H1] <;> iassumption

/-- The scoped semaphores at zero. -/
def zeros : sProp 𝕄 := iprop(semVal (sendC false 0 c) 0 ∗ semVal (recvC false 0 c) 0 ∗ semVal (sendC true 0 c) 0 ∗ semVal (recvC true 0 c) 0 ∗ semVal (sendC false 1 c) 0 ∗ semVal (recvC false 1 c) 0 ∗ semVal (sendC true 1 c) 0 ∗ semVal (recvC true 1 c) 0 ∗ semVal (sendC false 2 c) 0 ∗ semVal (recvC false 2 c) 0 ∗ semVal (sendC true 2 c) 0 ∗ semVal (recvC true 2 c) 0 ∗ semVal (sendC false 3 c) 0 ∗ semVal (recvC false 3 c) 0 ∗ semVal (sendC true 3 c) 0 ∗ semVal (recvC true 3 c) 0 ∗ semVal (sendC false 4 c) 0 ∗ semVal (recvC false 4 c) 0 ∗ semVal (sendC true 4 c) 0 ∗ semVal (recvC true 4 c) 0)

theorem tidy : iprop(overs m c ∗ spare c) ⊢ iprop(scratch c ∗ zeros c) := by
  unfold overs spare scratch zeros
  iintro ⟨⟨Of0, Ot0, Of1, Ot1, Of2, Ot2, Of3, Ot3, Of4, Ot4⟩, A5, R5⟩
  ihave Of0 := (over_slots m c false 0) $$ Of0
  icases Of0 with ⟨Af0, Cf0, Sf0, Vf0⟩
  ihave Ot0 := (over_slots m c true 0) $$ Ot0
  icases Ot0 with ⟨At0, Ct0, St0, Vt0⟩
  ihave Of1 := (over_slots m c false 1) $$ Of1
  icases Of1 with ⟨Af1, Cf1, Sf1, Vf1⟩
  ihave Ot1 := (over_slots m c true 1) $$ Ot1
  icases Ot1 with ⟨At1, Ct1, St1, Vt1⟩
  ihave Of2 := (over_slots m c false 2) $$ Of2
  icases Of2 with ⟨Af2, Cf2, Sf2, Vf2⟩
  ihave Ot2 := (over_slots m c true 2) $$ Ot2
  icases Ot2 with ⟨At2, Ct2, St2, Vt2⟩
  ihave Of3 := (over_slots m c false 3) $$ Of3
  icases Of3 with ⟨Af3, Cf3, Sf3, Vf3⟩
  ihave Ot3 := (over_slots m c true 3) $$ Ot3
  icases Ot3 with ⟨At3, Ct3, St3, Vt3⟩
  ihave Of4 := (over_slots m c false 4) $$ Of4
  icases Of4 with ⟨Af4, Cf4, Sf4, Vf4⟩
  ihave Ot4 := (over_slots m c true 4) $$ Ot4
  icases Ot4 with ⟨At4, Ct4, St4, Vt4⟩
  isplitr [Sf0 Vf0 St0 Vt0 Sf1 Vf1 St1 Vt1 Sf2 Vf2 St2 Vt2 Sf3 Vf3 St3 Vt3 Sf4 Vf4 St4 Vt4]
  · isplitl [Af0 Af1 Af2 Af3 Af4 A5]
    · iapply (accs_close c false)
      isplitl [Af0]; · iexact Af0
      isplitl [Af1]; · iexact Af1
      isplitl [Af2]; · iexact Af2
      isplitl [Af3]; · iexact Af3
      isplitl [Af4]; · iexact Af4
      iexact A5
    isplitl [At0 At1 At2 At3 At4 R5]
    · iapply (accs_close c true)
      isplitl [At0]; · iexact At0
      isplitl [At1]; · iexact At1
      isplitl [At2]; · iexact At2
      isplitl [At3]; · iexact At3
      isplitl [At4]; · iexact At4
      iexact R5
    isplitl [Cf0 Cf1 Cf2 Cf3 Cf4]
    · iapply (coms_close c false)
      isplitl [Cf0]; · iexact Cf0
      isplitl [Cf1]; · iexact Cf1
      isplitl [Cf2]; · iexact Cf2
      isplitl [Cf3]; · iexact Cf3
      iexact Cf4
    iapply (coms_close c true)
    isplitl [Ct0]; · iexact Ct0
    isplitl [Ct1]; · iexact Ct1
    isplitl [Ct2]; · iexact Ct2
    isplitl [Ct3]; · iexact Ct3
    iexact Ct4
  isplitl [Sf0]; · iexact Sf0
  isplitl [Vf0]; · iexact Vf0
  isplitl [St0]; · iexact St0
  isplitl [Vt0]; · iexact Vt0
  isplitl [Sf1]; · iexact Sf1
  isplitl [Vf1]; · iexact Vf1
  isplitl [St1]; · iexact St1
  isplitl [Vt1]; · iexact Vt1
  isplitl [Sf2]; · iexact Sf2
  isplitl [Vf2]; · iexact Vf2
  isplitl [St2]; · iexact St2
  isplitl [Vt2]; · iexact Vt2
  isplitl [Sf3]; · iexact Sf3
  isplitl [Vf3]; · iexact Vf3
  isplitl [St3]; · iexact St3
  isplitl [Vt3]; · iexact Vt3
  isplitl [Sf4]; · iexact Sf4
  isplitl [Vf4]; · iexact Vf4
  isplitl [St4]; · iexact St4
  iexact Vt4

end Cert.MoeProof

end
-- ==== Proof.Ghost.lean ====
/-
# The launch: cells, duties and credits

Every device's twenty-one cells are opened at zero; the duties of its cells are dealt to the devices that pay them, the
barrier's and the receive cells' to the partners; and what all devices owe a cell together is its credit.
-/
module

public import proofs.«01_k».proof.Proof.BodyC

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

/-! ## Sums over the cells -/

/-- What stands at every cell stands at the barrier and at every other. -/
theorem cells_split (Φ : CI → sProp 𝕄) : bigSep Finset.univ Φ = iprop((bigSep Finset.univ fun x : XI => Φ (some x)) ∗ Φ none) := by
  rw [bigSep_univ_equiv (Equiv.optionEquivSumPUnit.{0} XI).symm Φ, bigSep_univ_sum, bigSep_univ_of_subsingleton PUnit.unit.{1}]
  rfl

/-! ## What is minted -/

theorem cell_eq_iff {k k' : CI} {c c' : Dev nD} : Iff (cell k c = cell k' c') (k = k' ∧ c = c') := by
  constructor
  · intro h
    exact ⟨csem_injective (congrArg Prod.snd h), congrArg (fun g : GSem nD τ sig => g.1.1) h⟩
  · rintro ⟨rfl, rfl⟩; rfl

abbrev kcell (ck : Dev nD × CI) : GSem nD τ sig := cell ck.2 ck.1
theorem kcell_injective : Function.Injective kcell := fun a b h => by
  obtain ⟨h1, h2⟩ := cell_eq_iff.mp h
  exact Prod.ext h2 h1
def allCells : Finset (GSem nD τ sig) := Finset.univ.map ⟨kcell, kcell_injective⟩

/-- A duty: one of the barrier's five, or the one duty of another cell. -/
abbrev TI : Type := Fin 5 ⊕ XI
abbrev tokOf (ct : Dev nD × TI) : GSem nD τ sig × ℕ × Fin 5 := match ct.2 with
  | .inl d => (barC ct.1, 0, d)
  | .inr x => (cell (some x) ct.1, 0, 0)
theorem tokOf_injective : Function.Injective tokOf := by
  rintro ⟨c, t⟩ ⟨c', t'⟩ h
  rcases t with d | x <;> rcases t' with d' | x' <;>
    (obtain ⟨h1, h2⟩ := cell_eq_iff.mp (congrArg Prod.fst h)) <;> subst h2
  · have : d = d' := congrArg (fun y : GSem nD τ sig × ℕ × Fin 5 => y.2.2) h
    subst this; rfl
  · exact absurd h1 (by simp)
  · exact absurd h1 (by simp)
  · obtain rfl := Option.some.inj h1; rfl
def allToks : Finset (GSem nD τ sig × ℕ × Fin 5) := Finset.univ.map ⟨tokOf, tokOf_injective⟩

def u₀ : UU :=
  (initOf (Pipeline.cells cfgs cellOf_inj) (Pipeline.launchToks cfgs cellOf_inj), initOf allCells allToks)

/-- The duties of a device's own cells. -/
def toks : sProp 𝕄 :=
  iprop((bigSep Finset.univ fun d : Fin 5 => dutyTok ER (barC c) 0 d) ∗ bigSep Finset.univ fun x : XI => dutyTok ER (cell (some x) c) 0 0)

/-- What the launch deals a device. -/
def dealt : sProp 𝕄 :=
  iprop((bigSep Finset.univ fun k : CI => roundState ER (sched m) (cell k c) 0)
    ∗ (bigSep Finset.univ fun k : CI => atPos ER (cell k c) 0 ∅ 0) ∗ (bigSep Finset.univ fun k : CI => reached ER (cell k c) 0) ∗ toks c)

theorem fund_all : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun k : CI => Φ (cell k c) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt
  simp only [bigSep_sep']
  isplitl [Hst]; · iexact Hst
  isplitl [Hat]; · iexact Hat
  isplitl [Hr]; · iexact Hr
  iexact Htok

/-! ## The cells opened -/

/-- The launch's unscoped semaphore is the barrier's. -/
theorem unscopedSems0_bar : (unscopedSems0 c : sProp 𝕄) = semVal (barC c) 0 := by
  unfold unscopedSems0; rw [bigSep_eq_bigSepL_of_eq [SemLoc.reg barS] (by decide) (by decide)]; rfl

theorem open_cells :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : CI => iprop(∃ κ : ℕ, cellInv ER (sched m) κ (cell k c)))
          ∗ (bigSep Finset.univ fun k : CI => atPos ER (cell k c) 0 ∅ 0) ∗ (bigSep Finset.univ fun k : CI => reached ER (cell k c) 0) ∗ toks c) := by
  rw [unscopedSems0_bar]
  unfold dealt Pipeline.ownSems0
  iintro ⟨Hos, Hb, Hst, Hat, Hr, Htok⟩
  imod (show iprop(((bigSep Finset.univ fun x : XI => semVal (cell (some x) c) 0) ∗ semVal (barC c) 0) ∗ bigSep Finset.univ fun k : CI => roundState ER (sched m) (cell k c) 0)
      ⊢ (|={Set.univ}=> bigSep Finset.univ fun k : CI => iprop(∃ κ : ℕ, cellInv ER (sched m) κ (cell k c)) : sProp 𝕄) from by
        rw [← cells_split fun k => semVal (cell k c) 0, ← bigSep_sep']
        exact (bigSep_mono fun k _ => (Rounds.body_intro ER (sched m) (cell k c)).trans inv_alloc).trans (bigSep_fupd _ _)) $$ [Hos Hb Hst] with Hinv
  · isplitr [Hst]
    · isplitl [Hos]; · iexact Hos
      iexact Hb
    iexact Hst
  imodintro
  isplitl [Hinv]; · iexact Hinv
  isplitl [Hat]; · iexact Hat
  isplitl [Hr]; · iexact Hr
  iexact Htok

/-! ## The duties dealt to the devices that pay them -/

/-- The device that pays a duty of this device, and the other way round: the partner for the barrier and the receive cells, itself for a
send cell. -/
def payer (x : XI) (c : Dev nD) : Dev nD := if x.1 then peer x.2.1 x.2.2.val c else c

def barDeal : Dev nD × Fin 5 ≃ Dev nD × Fin 5 where
  toFun p := (peer false p.2.val p.1, p.2)
  invFun p := (peer false p.2.val p.1, p.2)
  left_inv p := Prod.ext (peer_peer _ _ _) rfl
  right_inv p := Prod.ext (peer_peer _ _ _) rfl
theorem payer_payer (x : XI) (c : Dev nD) : payer x (payer x c) = c := by
  unfold payer; split
  · exact peer_peer _ _ _
  · rfl
def xDeal : Dev nD × XI ≃ Dev nD × XI where
  toFun p := (payer p.2 p.1, p.2)
  invFun p := (payer p.2 p.1, p.2)
  left_inv p := Prod.ext (payer_payer _ _) rfl
  right_inv p := Prod.ext (payer_payer _ _) rfl

/-- The duties a device pays. -/
def payToks : sProp 𝕄 :=
  iprop((bigSep Finset.univ fun d : Fin 5 => dutyTok ER (barC (peer false d.val c)) 0 d) ∗ bigSep Finset.univ fun x : XI => dutyTok ER (cell (some x) (payer x c)) 0 0)

theorem toks_around : (bigSep Finset.univ fun c : Dev nD => (toks c : sProp 𝕄)) = bigSep Finset.univ fun c : Dev nD => payToks c := by
  unfold toks payToks
  rw [bigSep_sep', bigSep_sep',
    ← bigSep_univ_prod (fun p : Dev nD × Fin 5 => (dutyTok ER (barC p.1) 0 p.2 : sProp 𝕄)),
    ← bigSep_univ_prod (fun p : Dev nD × XI => (dutyTok ER (cell (some p.2) p.1) 0 0 : sProp 𝕄)),
    bigSep_univ_equiv barDeal (fun p : Dev nD × Fin 5 => (dutyTok ER (barC p.1) 0 p.2 : sProp 𝕄)),
    bigSep_univ_equiv xDeal (fun p : Dev nD × XI => (dutyTok ER (cell (some p.2) p.1) 0 0 : sProp 𝕄)),
    bigSep_univ_prod, bigSep_univ_prod]
  rfl

/-! ## The global step -/

def records (K : Dev nD × CI → ℕ) : sProp 𝕄 :=
  iprop((bigSep Finset.univ fun ck : Dev nD × CI => cellInv ER (sched m) (K ck) (cell ck.2 ck.1))
    ∗ bigSep Finset.univ fun ck : Dev nD × CI => reached ER (cell ck.2 ck.1) 0)
instance records_persistent (K : Dev nD × CI → ℕ) : BI.Persistent (records m K) := by unfold records; infer_instance

/-- What a device keeps for itself: its positions and the duties it pays. -/
def kept : sProp 𝕄 := iprop((bigSep Finset.univ fun k : CI => atPos ER (cell k c) 0 ∅ 0) ∗ payToks c)

/-- What the global step leaves a device. -/
def ready : sProp 𝕄 := iprop(∃ K, records m K ∗ kept c)

theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (sched m) κ (cell k c)))
          ∗ (bigSep Finset.univ fun k : CI => atPos ER (cell k c) 0 ∅ 0) ∗ (bigSep Finset.univ fun k : CI => reached ER (cell k c) 0) ∗ toks c) : sProp 𝕄)
      ⊢ bigSep Finset.univ (ready m) := by
  rw [bigSep_sep', bigSep_sep', bigSep_sep', ← bigSep_univ_prod (fun ck : Dev nD × CI => iprop(∃ κ : ℕ, cellInv ER (sched m) κ (cell ck.2 ck.1))),
    ← bigSep_univ_prod (fun ck : Dev nD × CI => (reached ER (cell ck.2 ck.1) 0 : sProp 𝕄)), toks_around]
  iintro ⟨HI, Hat, #HR, Htok⟩
  ihave HK := (BI.bigSep_exists_pi Finset.univ (fun (ck : Dev nD × CI) (κ : ℕ) => (cellInv ER (sched m) κ (cell ck.2 ck.1) : sProp 𝕄))) $$ HI
  icases HK with ⟨%K, #HI⟩
  iapply (spread (R := records m K) (Φ := fun c => kept c) fun c _ => show iprop(records m K ∗ kept c) ⊢ ready m c from by
    unfold ready; iintro H; iexists K; iexact H)
  isplitr
  · unfold records; isplitl; · iexact HI
    iexact HR
  · unfold kept; rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => open_cells m c).trans (bigSep_fupd _ _)).trans (BI.fupd_mono (regroup m))

/-! ## The launch credit -/

/-- A device's claim on a cell of device `c`, summed over the devices: the partner's alone. -/
theorem claim_sum (k k0 : CI) (h : Bool) (s n : ℕ) :
    (∑ d : Dev nD, (tallyAt (Ix := Unit) (cell k0 (peer h s d)) () n) (cell k c) ()) = if k = k0 then n else 0 := by
  simp only [tallyAt_apply, cell_eq_iff, and_true]
  rw [Finset.sum_eq_single (peer h s c)]
  · rw [peer_peer]; simp
  · intro d _ hd
    rw [if_neg]
    rintro ⟨-, e⟩
    exact hd (by rw [e, peer_peer])
  · intro h; exact absurd (Finset.mem_univ _) h

/-- What a cell is owed at launch. -/
def owedK : CI → ℕ
  | none => 5
  | some (false, _, _) => 0
  | some (true, _, _) => N

theorem owed_sum (k : CI) : (∑ d : Dev nD, O d 0 (cell k c) ()) = owedK k := by
  have hO : ∀ d : Dev nD, O d 0 = owe (pays d) := fun d => rfl
  simp only [hO, pays, payBar, payX, owe, Pi.add_apply, Finsupp.add_apply, Finset.sum_add_distrib, claim_sum]
  rcases k with _ | ⟨a, h, s⟩
  · simp [owedK]
  · cases a
    · simp [owedK]
    · cases h <;> fin_cases s <;> simp [owedK]

theorem launch_cell (k : CI) :
    tallyOn (cell k c) (launchCredit (Pipeline.owing fun d => O d 0) 0 (cell k c)) = (tallyAt (cell k c) () (owedK k) : CellTallies nD τ sig Unit) := by
  unfold tallyAt; refine congrArg _ (Finsupp.ext fun u => ?_); cases u
  rw [Pipeline.launchCredit_owing, Finsupp.single_eq_same, owed_sum]

theorem creds : (Pipeline.launchCred (fun d => O d 0) c : sProp 𝕄)
    ⊢ iprop((bigSep Finset.univ fun x : XI => cred (tallyAt (cell (some x) c) () (owedK (some x)))) ∗ cred (tallyAt (barC c) () 5)) := by
  refine (show _ ⊢ (bigSep Finset.univ fun k : CI => cred (tallyAt (cell k c) () (owedK k)) : sProp 𝕄) from ?_).trans (Entails.of_eq (cells_split _))
  refine (bigSep_subset (t := Finset.univ.map ⟨csem, csem_injective⟩) (Finset.subset_univ _)).trans ?_
  rw [bigSep_map]
  exact bigSep_mono fun k _ => Entails.of_eq (congrArg cred (launch_cell c k))

/-! ## What a device's body starts from -/

theorem to_tokens : (bigSep Finset.univ fun d : Fin 5 => (dutyTok ER (barC (peer false d.val c)) 0 d : sProp 𝕄)) ⊢ tokens c := by
  unfold tokens
  rw [bigSep_univ_eq_bigSepL [(0 : Fin 5), 1, 2, 3, 4] (by decide) (by decide)]
  exact .rfl

set_option maxHeartbeats 1600000 in
theorem to_idles : iprop((bigSep Finset.univ fun x : XI => (atPos ER (cell (some x) c) 0 ∅ 0 : sProp 𝕄))
    ∗ (bigSep Finset.univ fun x : XI => dutyTok ER (cell (some x) (payer x c)) 0 0)
    ∗ (bigSep Finset.univ fun x : XI => cred (tallyAt (cell (some x) c) () (owedK (some x))))) ⊢ idles c := by
  refine (show _ ⊢ (bigSep Finset.univ fun y : Fin 5 × Bool => (idle c y.2 y.1 : sProp 𝕄)) from ?_).trans ?_
  · have hp : ∀ Φ : XI → sProp 𝕄, bigSep Finset.univ Φ = iprop((bigSep Finset.univ fun y : Fin 5 × Bool => Φ (false, y.2, y.1)) ∗ bigSep Finset.univ fun y : Fin 5 × Bool => Φ (true, y.2, y.1)) := by
      intro Φ
      rw [bigSep_univ_prod, bigSep_univ_eq_bigSepL [false, true] (by decide) (by decide), bigSepL_cons_cons, bigSepL_singleton,
        bigSep_univ_equiv (Equiv.prodComm (Fin 5) Bool), bigSep_univ_equiv (Equiv.prodComm (Fin 5) Bool)]
      rfl
    unfold idle
    simp only [bigSep_sep', hp]
    iintro ⟨⟨H1, H2⟩, ⟨H3, H4⟩, H5, H6⟩
    isplitl [H1]; · iexact H1
    isplitl [H2]; · iexact H2
    isplitl [H3]; · iexact H3
    isplitl [H4]; · iexact H4
    iexact H6
  · unfold idles
    rw [bigSep_univ_eq_bigSepL [((0 : Fin 5), false), ((0 : Fin 5), true), ((1 : Fin 5), false), ((1 : Fin 5), true), ((2 : Fin 5), false), ((2 : Fin 5), true), ((3 : Fin 5), false), ((3 : Fin 5), true), ((4 : Fin 5), false), ((4 : Fin 5), true)] (by decide) (by decide)]
    exact .rfl

/-- Before its body: what everyone knows, its duties, positions and credits. -/
def start : sProp 𝕄 := iprop((∃ K, known m K) ∗ tokens c ∗ idles c ∗ atPos ER (barC c) 0 ∅ 0 ∗ cred (tallyAt (barC c) () 5))

theorem to_start : iprop(levAts L lv ∗ Pipeline.launchCred (fun d => O d 0) c ∗ ready m c) ⊢ start m c := by
  unfold ready kept payToks start
  rw [cells_split]
  iintro ⟨Hlev, Hcr, %K, HR, ⟨Hat, Hb⟩, Ht, Hx⟩
  ihave Hc := (creds (F := F) c) $$ Hcr
  icases Hc with ⟨Hcx, Hcb⟩
  isplitl [HR Hlev]
  · iexists K
    unfold known records levels
    icases HR with ⟨H1, H2⟩
    isplitl [H1]; · iexact H1
    isplitl [H2]; · iexact H2
    iexact Hlev
  isplitl [Ht]; · iapply (to_tokens c); iexact Ht
  isplitl [Hat Hx Hcx]
  · iapply (to_idles c)
    isplitl [Hat]; · iexact Hat
    isplitl [Hx]; · iexact Hx
    iexact Hcx
  isplitl [Hb]; · iexact Hb
  iexact Hcb

end Cert.MoeProof

end
-- ==== Proof.Run.lean ====
/-
# The run of the kernel

The launch around the bodies: what the region stages in and out, what each device starts from and ends with, and the run
of the whole program from any memory.
-/
module

public import proofs.«01_k».proof.Proof.Ghost
public import Idealize.ShloMosaic.Lib.Pipeline.CollectiveSegs

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg)

abbrev Datv (p : Fin 1) (c : Dev nD) : Type := Pipeline.Dat τ (Elt F) Unit ℕ UU ℕ (cfgs p) c

/-- After its body: its buffers at some contents and its cells closed at zero. -/
def finish (c : Dev nD) : sProp 𝕄 := iprop(scratch c ∗ zeros c ∗ semVal (barC c) 0)

/-- The region's proof data: the blocks staged in stay, the result's block becomes `outV`. -/
def dats (_ : Fin 1) (c : Dev nD) : Pipeline.Dat τ (Elt F) Unit ℕ UU ℕ cfg0 c where
  A w := V m c (Pipeline.arrRef spec0 w)
  after w _ := match w with
    | ⟨0, _⟩ => X0 m c
    | ⟨1, _⟩ => X1 m c
    | ⟨2, _⟩ => X2 m c
    | ⟨3, _⟩ => X3 m c
    | ⟨4, _⟩ => X4 m c
    | ⟨5, _⟩ => outV m c
  Φ t := match t with
    | ⟨0, _⟩ => iprop(start m c ∗ scratch c)
    | ⟨_ + 1, _⟩ => finish c
  q _ := fullShare
  owed t := match t with
    | ⟨0, _⟩ => O c 0
    | ⟨_ + 1, _⟩ => 0

/-- A whole buffer owned at a value is the buffer at that content. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Around the body: before, and after. -/
def bodyBefore (c : Dev nD) : sProp 𝕄 :=
  iprop((start m c ∗ scratch c) ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))
def bodyAfter (c : Dev nD) : sProp 𝕄 :=
  iprop(finish c ∗ (dats m 0 c).owesAt () t0_0.succ
    ∗ stg c cc0_stg0_0 (X0 m c)
    ∗ stg c cc0_stg1_0 (X1 m c)
    ∗ stg c cc0_stg2_0 (X2 m c)
    ∗ stg c cc0_stg3_0 (X3 m c)
    ∗ stg c cc0_stg4_0 (X4 m c)
    ∗ stg c cc0_stg5_0 (outV m c))

set_option maxHeartbeats 1600000 in
theorem body_sound (c : Dev nD) : bodyBefore m c
    ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => bodyAfter m c) := by
  unfold bodyBefore start
  iintro ⟨⟨⟨⟨%K, HK⟩, Ht, Hi, Hb, Hcb⟩, Hs⟩, Ho, ⟨%d0, %g0, %hg0, B0⟩, ⟨%d1, %g1, %hg1, B1⟩, ⟨%d2, %g2, %hg2, B2⟩, ⟨%d3, %g3, %hg3, B3⟩, ⟨%d4, %g4, %hg4, B4⟩, ⟨%d5, %g5, %hg5, B5⟩⟩
  have hx0 : g0 = X0 m c := by rw [hg0]; unfold Pipeline.Dat.before; rw [if_pos (fetch0_0 t0_0)]; rfl
  subst hx0
  have hx1 : g1 = X1 m c := by rw [hg1]; unfold Pipeline.Dat.before; rw [if_pos (fetch0_1 t0_0)]; rfl
  subst hx1
  have hx2 : g2 = X2 m c := by rw [hg2]; unfold Pipeline.Dat.before; rw [if_pos (fetch0_2 t0_0)]; rfl
  subst hx2
  have hx3 : g3 = X3 m c := by rw [hg3]; unfold Pipeline.Dat.before; rw [if_pos (fetch0_3 t0_0)]; rfl
  subst hx3
  have hx4 : g4 = X4 m c := by rw [hg4]; unfold Pipeline.Dat.before; rw [if_pos (fetch0_4 t0_0)]; rfl
  subst hx4
  unfold Pipeline.Dat.owesAt Pipeline.owesWithin
  icases Ho with ⟨%W, %hW, HO⟩
  rw [show (dats m 0 c).owed t0_0.castSucc = O c 0 from rfl]
  iapply (body_run m K c g5 fun _ => bodyAfter m c)
  isplitl [HK]; · iexact HK
  isplitl [HO]; · unfold due; iexists W; iexact HO
  isplitl [B0 B1 B2 B3 B4]
  · unfold blocks
    isplitl [B0]; · iexact B0
    isplitl [B1]; · iexact B1
    isplitl [B2]; · iexact B2
    isplitl [B3]; · iexact B3
    iexact B4
  isplitl [B5]; · iexact B5
  isplitl [Hs]; · iexact Hs
  isplitl [Ht]; · iexact Ht
  isplitl [Hi]; · iexact Hi
  isplitl [Hb]; · iexact Hb
  isplitl [Hcb]; · iexact Hcb
  unfold due blocks
  iintro ⟨⟨%W', HO⟩, ⟨B0, B1, B2, B3, B4⟩, B5, Hz, Hov, Hsp⟩
  ihave Ht := (tidy m c) $$ [Hov Hsp]
  · isplitl [Hov]; · iexact Hov
    iexact Hsp
  icases Ht with ⟨Hs, Hzs⟩
  unfold bodyAfter finish
  isplitl [Hs Hzs Hz]
  · isplitl [Hs]; · iexact Hs
    isplitl [Hzs]; · iexact Hzs
    iexact Hz
  isplitl [HO]
  · unfold Pipeline.Dat.owesAt Pipeline.owesWithin
    iexists W'
    isplitr; · ipureintro; exact fun _ _ => Or.inl trivial
    iexact HO
  isplitl [B0]; · iexists _; isplitr; · ipureintro; rfl
                  iexact B0
  isplitl [B1]; · iexists _; isplitr; · ipureintro; rfl
                  iexact B1
  isplitl [B2]; · iexists _; isplitr; · ipureintro; rfl
                  iexact B2
  isplitl [B3]; · iexists _; isplitr; · ipureintro; rfl
                  iexact B3
  isplitl [B4]; · iexists _; isplitr; · ipureintro; rfl
                  iexact B4
  iexists _; isplitr; · ipureintro; rfl
  iexact B5

set_option maxRecDepth 4000 in
/-- The library's body obligation on core `c`. -/
theorem body_obligation (c : Dev nD) : Pipeline.BodyObligation (dats (F := F) m 0 c) (defs₀ (F := F)) 𝒱₀ () Set.univ := fun t => by
  rw [fin_N0 t]
  rw [bigSep_W0, bigSep_W0]
  simp only [owns_whole]
  show bodyBefore m c ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => bodyAfter m c)
  exact body_sound m c

/-! ## The launch -/

theorem ownSemFacts : Pipeline.OwnSemFacts cfg0.spec osem := by decide

theorem share_eq (c : Dev nD) (w : Fin cfg0.W) : (dats m 0 c).share w = fullShare := by unfold Pipeline.Dat.share; split <;> rfl

/-- The kernel's own buffers, whole, at some contents, as the launch knows them and as the body does. -/
theorem scratch_eq (c : Dev nD) : (Pipeline.scopedRest (Ix := Unit) (Name := ℕ) (U := UU) (Lvl := ℕ) (Val := Elt F) spec0 c : sProp 𝕄) ⊣⊢ scratch c := by
  rw [scopedRest0_eq]
  unfold scratch
  simp only [show ∀ X, (owns (c : Thread nD τ) (accM false) fullShare X : sProp 𝕄) = _ from owns_whole c cc0_scratch0,
    show ∀ X, (owns (c : Thread nD τ) (accM true) fullShare X : sProp 𝕄) = _ from owns_whole c cc0_scratch1,
    show ∀ X, (owns (c : Thread nD τ) (comM false) fullShare X : sProp 𝕄) = _ from owns_whole c cc0_scratch2,
    show ∀ X, (owns (c : Thread nD τ) (comM true) fullShare X : sProp 𝕄) = _ from owns_whole c cc0_scratch3]
  constructor
  · iintro ⟨⟨%a, A⟩, ⟨%b, B⟩, ⟨%d, C⟩, ⟨%e, D⟩⟩
    isplitl [A]; · iexists a, a; isplitr; · ipureintro; rfl
                   iexact A
    isplitl [B]; · iexists b, b; isplitr; · ipureintro; rfl
                   iexact B
    isplitl [C]; · iexists d, d; isplitr; · ipureintro; rfl
                   iexact C
    iexists e, e; isplitr; · ipureintro; rfl
    iexact D
  · iintro ⟨⟨%a', %a, -, A⟩, ⟨%b', %b, -, B⟩, ⟨%d', %d, -, C⟩, ⟨%e', %e, -, D⟩⟩
    isplitl [A]; · iexists a; iexact A
    isplitl [B]; · iexists b; iexact B
    isplitl [C]; · iexists d; iexact C
    iexists e; iexact D

theorem zeros_own (c : Dev nD) : zeros c
    ⊢ (Pipeline.ownSems0 (Ix := Unit) (Name := ℕ) (U := UU) (Lvl := ℕ) (Val := Elt F) (τ := τ) osem c : sProp 𝕄) := by
  rw [Pipeline.ownSems0_eq_of_list c osem [(false, false, 0), (true, false, 0), (false, true, 0), (true, true, 0), (false, false, 1), (true, false, 1), (false, true, 1), (true, true, 1), (false, false, 2), (true, false, 2), (false, true, 2), (true, true, 2), (false, false, 3), (true, false, 3), (false, true, 3), (true, true, 3), (false, false, 4), (true, false, 4), (false, true, 4), (true, true, 4)] (by decide) (by decide)]
  unfold zeros
  exact Entails.of_eq rfl

theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ ready m c)
      ⊢ |={Set.univ}=> iprop(start m c ∗ emp) := by
  iintro ⟨-, Hlev, Hcr, -, HG⟩
  imodintro
  isplitl
  · iapply (to_start m c)
    isplitl [Hlev]; · iexact Hlev
    isplitl [Hcr]; · iexact Hcr
    iexact HG
  · iempintro

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl]
  iintro ⟨Hs, -, Hr⟩
  isplitl [Hs]; · iexact Hs
  iapply (scratch_eq c).1; iexact Hr

theorem phi_out (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = finish c from rfl, unscopedSems0_bar]
  unfold finish
  iintro ⟨Hr, Hz, Hb⟩
  isplitl [Hb]; · iexact Hb
  isplitl [Hz]; · iapply (zeros_own c); iexact Hz
  iapply (scratch_eq c).2; iexact Hr

/-- The staging semaphores are none of the protocol's, and lowest. -/
theorem stage_low (w : Fin cfg0.W) (s : Fin (cfg0.win w).nbuf) : lvK (kindOf (.dma ((cfg0.win w).sem s))) = 0 := by
  revert s; fin_cases w <;> decide

theorem waits (c : Dev nD) : (levAts L lv : sProp 𝕄) ⊢ Pipeline.cellsWaits cfgs (dats m) () 0 c :=
  Pipeline.cellsWaits_intro cfgs (dats m) () 0 c fun w s t => by
    have h0 := stage_low w s
    rcases t with ⟨_ | _, ht⟩
    · exact mayWait c _ 0 0 (le_of_eq h0) (by decide)
    · exact mayWait c _ 15 0 (le_of_eq h0) (by decide)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters, over any float values: every weakly fair execution of the kernel on its 32 devices ends, with each
device's arrays at `finalA` and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => O d 0) (howed₀ := fun _ => rfl) (howedN := fun _ => rfl)
    (L := L) (lv := lv) (hL := L_of_ne) (hwaits := waits m)
    (G := dealt m) (G' := ready m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_in m) (hout := phi_out m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs hold after the run what they held. -/
theorem finalA_in (c : Dev nD) (w : Fin cfg0.W) (hw : (cfg0.win w).isOut = false) : finalA m c w = V m c (Pipeline.arrRef spec0 w) :=
  (dats (F := F) m 0 c).arrAt_in w hw _

/-! A window's block is its whole array. -/

theorem blk0 (f : (main_arg0 : Ref sig .tc).ty.Contents (Elt F)) : (win0_0.blk t0_0).view.read (Elt F) f = f := by
  funext i
  show f _ = f i
  congr 1
  funext a
  exact Fin.ext (win0_0.rect_emb_val_of_index_zero t0_0 a (by fin_cases a <;> decide) i)
theorem blk1 (f : (main_arg1 : Ref sig .tc).ty.Contents (Elt F)) : (win0_1.blk t0_0).view.read (Elt F) f = f := by
  funext i
  show f _ = f i
  congr 1
  funext a
  exact Fin.ext (win0_1.rect_emb_val_of_index_zero t0_0 a (by fin_cases a <;> decide) i)
theorem blk2 (f : (main_arg2 : Ref sig .tc).ty.Contents (Elt F)) : (win0_2.blk t0_0).view.read (Elt F) f = f := by
  funext i
  show f _ = f i
  congr 1
  funext a
  exact Fin.ext (win0_2.rect_emb_val_of_index_zero t0_0 a (by fin_cases a <;> decide) i)
theorem blk3 (f : (main_arg3 : Ref sig .tc).ty.Contents (Elt F)) : (win0_3.blk t0_0).view.read (Elt F) f = f := by
  funext i
  show f _ = f i
  congr 1
  funext a
  exact Fin.ext (win0_3.rect_emb_val_of_index_zero t0_0 a (by fin_cases a <;> decide) i)
theorem blk4 (f : (main_arg4 : Ref sig .tc).ty.Contents (Elt F)) : (win0_4.blk t0_0).view.read (Elt F) f = f := by
  funext i
  show f _ = f i
  congr 1
  funext a
  exact Fin.ext (win0_4.rect_emb_val_of_index_zero t0_0 a (by fin_cases a <;> decide) i)
theorem blk5 (f : (main_v1 : Ref sig .tc).ty.Contents (Elt F)) : (win0_5.blk t0_0).view.read (Elt F) f = f := by
  funext i
  show f _ = f i
  congr 1
  funext a
  exact Fin.ext (win0_5.rect_emb_val_of_index_zero t0_0 a (by fin_cases a <;> decide) i)
theorem X0_eq (c : Dev nD) : X0 m c = m ((c : Thread nD τ).loc main_arg0) := by unfold X0 iblk; exact blk0 (m ((c : Thread nD τ).loc main_arg0))
theorem X1_eq (c : Dev nD) : X1 m c = m ((c : Thread nD τ).loc main_arg1) := by unfold X1 iblk; exact blk1 (m ((c : Thread nD τ).loc main_arg1))
theorem X2_eq (c : Dev nD) : X2 m c = m ((c : Thread nD τ).loc main_arg2) := by unfold X2 iblk; exact blk2 (m ((c : Thread nD τ).loc main_arg2))
theorem X3_eq (c : Dev nD) : X3 m c = m ((c : Thread nD τ).loc main_arg3) := by unfold X3 iblk; exact blk3 (m ((c : Thread nD τ).loc main_arg3))
theorem X4_eq (c : Dev nD) : X4 m c = m ((c : Thread nD τ).loc main_arg4) := by unfold X4 iblk; exact blk4 (m ((c : Thread nD τ).loc main_arg4))

theorem read_out (c : Dev nD) : ((cfg0.win (5 : Fin 6)).blk t0_0).view.read (Elt F) (finalA m c (5 : Fin 6)) = outV m c := by
  unfold finalA
  rw [show cfg0.N = (t0_0 : Fin cfg0.N).val + 1 from rfl, (dats m 0 c).arrAt_succ (5 : Fin 6) t0_0]
  rw [show (cfg0.win (5 : Fin 6)).flush t0_0 = true from flush0_5 _, if_pos rfl]
  exact View.read_write_univ _ _

/-- The result holds `outV`. -/
theorem finalA_out (c : Dev nD) : finalA m c (5 : Fin 6) = outV m c := by
  exact (blk5 _).symm.trans (read_out m c)

end Cert.MoeProof

end
-- ==== Proof.Ends.lean ====
/-
# What a run of the kernel ends with
-/
module

public import proofs.«01_k».proof.Proof.Run

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The run, read at the program's arrays -/

variable (ρ : Dev nD → PrngReg)

/-- What a run ends with: the result, the arguments as they were, the counters at zero. -/
def Ends (r : PUnit × MemSt nD τ sig (Elt F)) : Prop :=
  (∀ c : Dev nD, r.2.mem ((c.tc : Thread nD τ).loc main_v1) = outV m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
  ∧ r.2.sem = fun _ => 0

theorem run_ends : θ_run defs (onTc (τ := τ) (main (F := F))) ⟨m, fun _ => 0, ρ⟩ (Ends m) :=
  (θ_run defs _ _).mono (fun _ h => ⟨fun c => ⟨(h.1 c 5).trans (finalA_out m c), (h.1 c 0).trans (finalA_in m c 0 rfl), (h.1 c 1).trans (finalA_in m c 1 rfl),
    (h.1 c 2).trans (finalA_in m c 2 rfl), (h.1 c 3).trans (finalA_in m c 3 rfl), (h.1 c 4).trans (finalA_in m c 4 rfl)⟩, h.2⟩) (run_main (F := F) m ρ)

end Cert.MoeProof

end
-- ==== Proof.Same.lean ====
/-
# One text, two names

The printed program and its idealization have the same text. Their kernels' table of bodies is the same table; with
it the program's run, stated of the one, is read of the other.
-/
module

public import proofs.«01_k».proof.Defs
public import proofs.«01_k».proof.Proof.Gen.Kernel
public import proofs.«01_k».proof.Proof.Gen.KernelIdeal

@[expose] public section

noncomputable section

namespace Cert.MoeProof

open Idealize.ShloMosaic Idealize.SL.Sem

variable {F : FTy → Type} [FloatOps F]

/-- The kernel's own body table: one label on the TensorCore. -/
theorem bodies_same : Cert.Kernel.defs₀ (F := F) = Cert.KernelIdeal.defs₀ (F := F) := by
  funext p l a
  match p, l with
  | .tc, 0 => rfl
  | .scScalar _, _ => rfl
  | .scVector _ _, _ => rfl

/-- The whole table, with the pipeline's labels. -/
theorem defs_same : Cert.Kernel.defs (F := F) = Cert.KernelIdeal.defs (F := F) :=
  congrArg (Pipeline.defs (Cert.KernelIdeal.pcfgs (F := F))) bodies_same

/-- A run of the idealization's text is a run of the printed program's. -/
theorem run_same (m) (ρ) (Q)
    (h : θ_run (Cert.KernelIdeal.defs (F := F)) (onTc Cert.KernelIdeal.main) ⟨m, fun _ => 0, ρ⟩ Q) :
    θ_run (Cert.Kernel.defs (F := F)) (onTc Cert.Kernel.main) ⟨m, fun _ => 0, ρ⟩ Q := by
  rw [defs_same]
  exact h

end Cert.MoeProof

end
-- ==== Proof.Cube.lean ====
/-
# The exchange sums over all devices

A device adds to what it holds what its partner holds, five times, the partner's number differing from its own by the
stage's mask. After `s` stages device `c` holds the sum, over the set `reached h s` of exclusive-or combinations of the first
`s` masks, of what the devices `c ⊕ t` held at first. The five masks of either order are independent, so after five stages
the set is everything and each device holds the sum over all 32. The sum is of extended reals, in which order and grouping do not matter.
-/
module

public import proofs.«01_k».proof.Proof.Values
public import Mathlib.Algebra.BigOperators.Group.Finset.Basic

@[expose] public section

noncomputable section

namespace Cert.MoeProof

open Cert.KernelIdeal Cert.KernelIdeal.Gen

open Idealize.ShloMosaic

set_option backward.proofsInPublic true in
/-- The device whose number is the exclusive or of two devices' numbers. -/
def xorDev (c t : Fin 32) : Fin 32 := ⟨c.val ^^^ t.val, Nat.xor_lt_two_pow (n := 5) c.isLt t.isLt⟩

theorem xorDev_assoc (c t u : Fin 32) : xorDev (xorDev c t) u = xorDev c (xorDev t u) := Fin.ext (Nat.xor_assoc _ _ _)

theorem xorDev_self_left (c t : Fin 32) : xorDev c (xorDev c t) = t :=
  Fin.ext (by show c.val ^^^ (c.val ^^^ t.val) = t.val; rw [← Nat.xor_assoc, Nat.xor_self, Nat.zero_xor])

/-- A stage's mask as a device number. -/
def maskDev (h : Bool) (s : ℕ) : Fin 32 := ⟨mask h s, mask_lt h s⟩

theorem peer_eq (h : Bool) (s : ℕ) (c : Dev nD) : peer h s c = xorDev c (maskDev h s) := rfl

/-- The combinations of the first `s` masks. -/
def reached (h : Bool) : ℕ → Finset (Fin 32)
  | 0 => {0}
  | s + 1 => reached h s ∪ (reached h s).image (xorDev (maskDev h s))

theorem reached_disjoint (h : Bool) (s : Fin 5) : Disjoint (reached h s) ((reached h s).image (xorDev (maskDev h s))) := by
  revert h s; decide +kernel

theorem reached_five (h : Bool) : reached h 5 = Finset.univ := by revert h; decide +kernel

/-- A family of values that a stage combines as the kernel does. -/
theorem stages (h : Bool) (A : ℕ → Fin 32 → EReal) (hA : ∀ s c, A (s + 1) c = A s c + A s (xorDev c (maskDev h s)))
    (s : ℕ) (hs : s ≤ 5) (c : Fin 32) : A s c = ∑ t ∈ reached h s, A 0 (xorDev c t) := by
  induction s generalizing c with
  | zero => rw [reached, Finset.sum_singleton]; exact congrArg (A 0) (Fin.ext (Nat.xor_zero _).symm)
  | succ s ih =>
    have hd := reached_disjoint h ⟨s, by omega⟩
    rw [hA, ih (by omega), ih (by omega), reached, Finset.sum_union hd,
      Finset.sum_image fun a _ b _ e => by rw [← xorDev_self_left (maskDev h s) a, e, xorDev_self_left]]
    exact congrArg _ (Finset.sum_congr rfl fun t _ => congrArg (A 0) (xorDev_assoc c _ t))

/-- After five stages every device holds the sum over all. -/
theorem stages_five (h : Bool) (A : ℕ → Fin 32 → EReal) (hA : ∀ s c, A (s + 1) c = A s c + A s (xorDev c (maskDev h s)))
    (c : Fin 32) : A 5 c = ∑ d, A 0 d := by
  rw [stages h A hA 5 le_rfl c, reached_five]
  exact Fintype.sum_equiv ⟨xorDev c, xorDev c, xorDev_self_left c, xorDev_self_left c⟩ _ _ fun _ => rfl

/-- What every device holds of half `h` after the five stages, at an element: the sum of all devices' own products there. -/
theorem accV_five (m : (ℓ : Loc nD τ sig) → Buf (Elt Ideal) ℓ) (h : Bool) (c : Dev nD) (i : S256x128.Idx) :
    (accV m h 5 c i : EReal) = ∑ d : Fin 32, (mine m h d i : EReal) :=
  stages_five h (fun s d => accV m h s d i) (fun _ _ => rfl) c

end Cert.MoeProof

end
-- ==== Proof.Layer.lean ====
/-
# The layer, as plain sums

Scores, gates and products of one token row, as functions of the arrays' entries; the layer's result from them; and the sum over
devices that the kernel computes. Device `d` weighs the products of experts `2 d` and `2 d + 1` by the row's gate if the row is
routed to the expert and by zero if not. Zero times anything is zero in the extended reals, so of the 64 weighted products one is
left, that of the expert routed to, or none if the index names no expert.
-/
module

public import Idealize.ShloMosaic.Lib.Pointwise

@[expose] public section

noncomputable section

namespace Cert.MoeProof

open Idealize.ShloMosaic

/-- A row of the activations times a matrix. -/
def rowDot {K J : ℕ} (x : Fin K → EReal) (M : Fin K → Fin J → EReal) (j : Fin J) : EReal := ∑ k, x k * M k j

/-- The gates of a row with scores `s`: exponentials of the scores less their maximum, over their sum. -/
def gateOf (s : Fin 64 → EReal) (j : Fin 64) : EReal :=
  let top := Finset.univ.fold max (Ideal.ofBits .f32 0xFF800000#32) s
  Ideal.div (Ideal.exp (s j - top)) (∑ k, Ideal.exp (s k - top))

/-- What the routed part adds to a row: gate times product of the expert the word `i` names, nothing if it names none. -/
def routedOf (i : BitVec 32) (P Y : Fin 64 → EReal) : EReal := if h : i.toNat < 64 then P ⟨i.toNat, h⟩ * Y ⟨i.toNat, h⟩ else 0

/-- The weight the kernel gives the expert of number `e`: the gates summed where the column is both the row's index and `e`. -/
def weight (i e : BitVec 32) (P : Fin 64 → EReal) : EReal :=
  ∑ x : Fin 64, Scalar.select (IntOp.andi (IntOp.cmpi .eq (BitVec.ofNat 32 x.val) i) (IntOp.cmpi .eq (BitVec.ofNat 32 x.val) e)) (P x) (0 : EReal)

theorem pick_eq (a i e : BitVec 32) (p : EReal) :
    Scalar.select (IntOp.andi (IntOp.cmpi .eq a i) (IntOp.cmpi .eq a e)) p 0 = if a = i ∧ a = e then p else 0 := by
  have hb : ∀ u v : Bool, BitVec.ofBool u &&& BitVec.ofBool v = 1#1 ↔ (u = true ∧ v = true) := by decide
  show (if BitVec.ofBool (a == i) &&& BitVec.ofBool (a == e) = 1#1 then p else 0) = _
  simp only [hb, beq_iff_eq]

theorem word_eq (x : Fin 64) (i : BitVec 32) : BitVec.ofNat 32 x.val = i ↔ x.val = i.toNat := by
  have hx := x.isLt
  constructor
  · rintro rfl; rw [BitVec.toNat_ofNat]; omega
  · intro h; rw [h]; exact BitVec.eq_of_toNat_eq (by rw [BitVec.toNat_ofNat]; omega)

/-- It is the gate if the row is routed to the expert, else zero. -/
theorem weight_eq (i : BitVec 32) (e : Fin 64) (P : Fin 64 → EReal) :
    weight i (BitVec.ofNat 32 e.val) P = if i.toNat = e.val then P e else 0 := by
  have he : (BitVec.ofNat 32 e.val).toNat = e.val := by rw [BitVec.toNat_ofNat]; omega
  unfold weight
  simp only [pick_eq, word_eq, he]
  by_cases h : i.toNat = e.val
  · rw [if_pos h, Finset.sum_eq_single e (fun x _ hx => if_neg fun hh => hx (Fin.ext hh.2)) (fun hh => absurd (Finset.mem_univ _) hh)]
    exact if_pos ⟨h.symm, rfl⟩
  · rw [if_neg h]
    exact Finset.sum_eq_zero fun x _ => if_neg fun hh => h (hh.1.symm.trans hh.2)

/-- The two experts of device `d`. -/
def expertA (d : Fin 32) : Fin 64 := ⟨2 * d.val, by omega⟩
def expertB (d : Fin 32) : Fin 64 := ⟨2 * d.val + 1, by omega⟩

/-- The devices' weighted products sum to the routed part. -/
theorem devices_sum (i : BitVec 32) (P Y : Fin 64 → EReal) :
    ∑ d : Fin 32, (weight i (BitVec.ofNat 32 (expertA d).val) P * Y (expertA d) + weight i (BitVec.ofNat 32 (expertB d).val) P * Y (expertB d))
      = routedOf i P Y := by
  simp only [weight_eq]
  unfold routedOf
  by_cases h : i.toNat < 64
  · rw [dif_pos h, Finset.sum_eq_single (⟨i.toNat / 2, by omega⟩ : Fin 32)]
    · rcases Nat.mod_two_eq_zero_or_one i.toNat with hp | hp
      · have e : (⟨i.toNat, h⟩ : Fin 64) = expertA ⟨i.toNat / 2, by omega⟩ := Fin.ext (by show i.toNat = 2 * (i.toNat / 2); omega)
        rw [if_pos (congrArg Fin.val e), if_neg (by show ¬ i.toNat = 2 * (i.toNat / 2) + 1; omega), zero_mul, add_zero, ← e]
      · have e : (⟨i.toNat, h⟩ : Fin 64) = expertB ⟨i.toNat / 2, by omega⟩ := Fin.ext (by show i.toNat = 2 * (i.toNat / 2) + 1; omega)
        rw [if_pos (congrArg Fin.val e), if_neg (by show ¬ i.toNat = 2 * (i.toNat / 2); omega), zero_mul, zero_add, ← e]
    · intro d _ hd
      have hne : d.val ≠ i.toNat / 2 := fun hh => hd (Fin.ext hh)
      rw [if_neg (by show ¬ i.toNat = 2 * d.val; omega), if_neg (by show ¬ i.toNat = 2 * d.val + 1; omega), zero_mul, zero_mul, add_zero]
    · exact fun hh => absurd (Finset.mem_univ _) hh
  · rw [dif_neg h]
    exact Finset.sum_eq_zero fun d _ => by
      rw [if_neg (by show ¬ i.toNat = 2 * d.val; omega), if_neg (by show ¬ i.toNat = 2 * d.val + 1; omega), zero_mul, zero_mul, add_zero]

/-- The layer's result at token `n`, column `h`. -/
def layerAt (x : (⟨2, ![256, 128]⟩ : Shape).Idx → EReal) (rw' : (⟨2, ![128, 64]⟩ : Shape).Idx → EReal)
    (idx : (⟨2, ![256, 1]⟩ : Shape).Idx → BitVec 32) (W : (⟨3, ![64, 128, 256]⟩ : Shape).Idx → EReal)
    (sw : (⟨2, ![128, 256]⟩ : Shape).Idx → EReal) (n : Fin 256) (h : Fin 256) : EReal :=
  rowDot (fun k => x (ix2 n k)) (fun k j => sw (ix2 k j)) h
    + routedOf (idx (ix2 n 0)) (gateOf (rowDot (fun k => x (ix2 n k)) (fun k j => rw' (ix2 k j))))
        (fun e => rowDot (fun k => x (ix2 n k)) (fun k j => W (ix3 e k j)) h)

end Cert.MoeProof

end
-- ==== Proof.KernelValue.lean ====
/-
# What the kernel computes, element by element

At the ideal values the kernel's result on every device is the layer (`layerAt`) of the whole arrays: its own products are the
weighted products of its two experts, the stages sum them over the devices, and the shared expert's product is added last.
-/
module

public import proofs.«01_k».proof.Proof.Cube
public import proofs.«01_k».proof.Proof.Layer
public import proofs.«01_k».proof.Proof.Run
public import Idealize.ShloMosaic.Lib.Layout

@[expose] public section

noncomputable section

namespace Cert.MoeProof

open Cert.KernelIdeal Cert.KernelIdeal.Gen

open Idealize.ShloMosaic

set_option maxRecDepth 16384

variable (m : (ℓ : Loc nD τ sig) → Buf (Elt Ideal) ℓ)

/-- The softmax of the scores. -/
theorem gate_at (x : Vec Ideal S256x128 .bf16) (w : Vec Ideal S128x64 .bf16) (n : Fin 256) (j : Fin 64) :
    k0_pay4 (k0_pay2 x w) (k0_pay3 x w) (ix2 n j) = gateOf (rowDot (fun k => x (ix2 n k)) (fun k j => w (ix2 k j))) j := by
  pointwise [k0_pay4, k0_pay3, k0_pay2, k0_pay1]
  rfl

/-- The numbers of a device's two experts, as the kernel computes them. -/
theorem word_A (c : Dev nD) : Scalar.addi (Scalar.muli (me c) 2#32) 0#32 = BitVec.ofNat 32 (expertA c).val := by
  revert c; decide +kernel
theorem word_B (c : Dev nD) : Scalar.addi (Scalar.muli (me c) 2#32) 1#32 = BitVec.ofNat 32 (expertB c).val := by
  revert c; decide +kernel

/-- A device's own product in column `h`: its two experts' weighted products. -/
def ownAt (x : S256x128.Idx → EReal) (rw' : S128x64.Idx → EReal) (idx : S256x1.Idx → BitVec 32)
    (W : (⟨3, ![64, 128, 256]⟩ : Shape).Idx → EReal) (c : Dev nD) (n h : Fin 256) : EReal :=
  weight (idx (ix2 n 0)) (BitVec.ofNat 32 (expertA c).val) (gateOf (rowDot (fun k => x (ix2 n k)) (fun k j => rw' (ix2 k j))))
      * rowDot (fun k => x (ix2 n k)) (fun k j => W (ix3 (expertA c) k j)) h
    + weight (idx (ix2 n 0)) (BitVec.ofNat 32 (expertB c).val) (gateOf (rowDot (fun k => x (ix2 n k)) (fun k j => rw' (ix2 k j))))
      * rowDot (fun k => x (ix2 n k)) (fun k j => W (ix3 (expertB c) k j)) h

/-- A column of the left half, of the right half. -/
def leftCol (l : Fin 128) : Fin 256 := ⟨l.val, by omega⟩
def rightCol (l : Fin 128) : Fin 256 := ⟨128 + l.val, by omega⟩

theorem leftR_emb (n : Fin 256) (l : Fin 128) : leftR.emb (ix2 n l) = ix2 n (leftCol l) :=
  funext fun a => Fin.ext (by
    match a with
    | ⟨0, _⟩ => show 0 + 1 * n.val = n.val; omega
    | ⟨1, _⟩ => show 0 + 1 * l.val = l.val; omega)

theorem rightR_emb (n : Fin 256) (l : Fin 128) : rightR.emb (ix2 n l) = ix2 n (rightCol l) :=
  funext fun a => Fin.ext (by
    match a with
    | ⟨0, _⟩ => show 0 + 1 * n.val = n.val; omega
    | ⟨1, _⟩ => show 128 + 1 * l.val = 128 + l.val; omega)

/-- Which arrays the devices hold: one copy of four of them each, and their two experts of the fifth. -/
structure Holds (x : S256x128.Idx → EReal) (rw' : S128x64.Idx → EReal) (idx : S256x1.Idx → BitVec 32)
    (W : (⟨3, ![64, 128, 256]⟩ : Shape).Idx → EReal) (sw : S128x256.Idx → EReal) : Prop where
  x : ∀ c, X0 m c = x
  rw' : ∀ c, X1 m c = rw'
  idx : ∀ c, X2 m c = idx
  W : ∀ c, X3 m c = Layout.block ⟨3, ![2, 128, 256]⟩ ⟨3, ![64, 128, 256]⟩ 0 32 c W
  sw : ∀ c, X4 m c = sw

variable {m}
variable {x : S256x128.Idx → EReal} {rw' : S128x64.Idx → EReal} {idx : S256x1.Idx → BitVec 32}
    {W : (⟨3, ![64, 128, 256]⟩ : Shape).Idx → EReal} {sw : S128x256.Idx → EReal} (H : Holds m x rw' idx W sw)

include H

/-- The first loaded expert is slab `2 c` of the stack; -/
theorem E0_at (c : Dev nD) (k : Fin 128) (l : Fin 256) : E0 m c (ix3 0 k l) = W (ix3 (expertA c) k l) := by
  unfold E0
  rw [H.W c, Layout.block_apply]
  refine congrArg W (funext fun a => Fin.ext ?_)
  rw [Layout.Tiles.idx_val]
  match a with
  | ⟨0, _⟩ => show c.val * 2 + (0 + 1 * 0) = 2 * c.val; omega
  | ⟨1, _⟩ => show 0 + 1 * k.val = k.val; omega
  | ⟨2, _⟩ => show 0 + 1 * l.val = l.val; omega

/-- the second is slab `2 c + 1`. -/
theorem E1_at (c : Dev nD) (k : Fin 128) (l : Fin 256) : E1 m c (ix3 0 k l) = W (ix3 (expertB c) k l) := by
  unfold E1
  rw [H.W c, Layout.block_apply]
  refine congrArg W (funext fun a => Fin.ext ?_)
  rw [Layout.Tiles.idx_val]
  match a with
  | ⟨0, _⟩ => show c.val * 2 + (1 + 1 * 0) = 2 * c.val + 1; omega
  | ⟨1, _⟩ => show 0 + 1 * k.val = k.val; omega
  | ⟨2, _⟩ => show 0 + 1 * l.val = l.val; omega

theorem mine_left (c : Dev nD) (n : Fin 256) (l : Fin 128) : mine m false c (ix2 n l) = ownAt x rw' idx W c n (leftCol l) := by
  unfold mine drop1
  pointwise [k0_pay6, k0_pay7, k0_pay8, k0_pay9, k0_pay10, k0_pay1, k0_pay5]
  simp only [word_A, word_B, gate_at, H.x, H.rw', H.idx, E0_at H, E1_at H]
  rfl

theorem mine_right (c : Dev nD) (n : Fin 256) (l : Fin 128) : mine m true c (ix2 n l) = ownAt x rw' idx W c n (rightCol l) := by
  unfold mine drop1
  pointwise [k0_pay6, k0_pay7, k0_pay8, k0_pay9, k0_pay11, k0_pay1, k0_pay5]
  simp only [word_A, word_B, gate_at, H.x, H.rw', H.idx, E0_at H, E1_at H]
  rfl

/-- What is written in the left half of the columns; -/
theorem left_at (c : Dev nD) (n : Fin 256) (l : Fin 128) : leftV m c (ix2 n l) = layerAt x rw' idx W sw n (leftCol l) := by
  have h5 := accV_five m false c (ix2 n l)
  have hs : accV m false 5 c (ix2 n l) = (accV m false 4 c (ix2 n l) + accV m false 4 (peer false 4 c) (ix2 n l) : EReal) := rfl
  rw [hs] at h5
  pointwise [leftV, lift1, k0_pay21, k0_pay12, k0_pay1]
  rw [h5, H.x, H.sw, add_comm]
  simp only [mine_left H]
  exact congrArg₂ (· + ·) rfl
    (devices_sum _ _ (fun e => rowDot (fun k => x (ix2 n k)) (fun k j => W (ix3 e k j)) (leftCol l)))

/-- in the right half. -/
theorem right_at (c : Dev nD) (n : Fin 256) (l : Fin 128) : rightV m c (ix2 n l) = layerAt x rw' idx W sw n (rightCol l) := by
  have h5 := accV_five m true c (ix2 n l)
  have hs : accV m true 5 c (ix2 n l) = (accV m true 4 c (ix2 n l) + accV m true 4 (peer true 4 c) (ix2 n l) : EReal) := rfl
  rw [hs] at h5
  pointwise [rightV, lift1, k0_pay22, k0_pay12, k0_pay1]
  rw [h5, H.x, H.sw, add_comm]
  simp only [mine_right H]
  exact congrArg₂ (· + ·) rfl
    (devices_sum _ _ (fun e => rowDot (fun k => x (ix2 n k)) (fun k j => W (ix3 e k j)) (rightCol l)))

/-- The whole result. -/
theorem out_at (c : Dev nD) (n h : Fin 256) : outV m c (ix2 n h) = layerAt x rw' idx W sw n h := by
  unfold outV
  by_cases hh : h.val < 128
  · have e : h = leftCol ⟨h.val, hh⟩ := rfl
    rw [Rect.overlay_of_not_mem]
    · rw [e, ← leftR_emb, Rect.overlay_emb, left_at H]
    · intro hm
      have h1 : 128 ≤ h.val := (Rect.mem_set_unit.1 hm 1).1
      omega
  · have e : h = rightCol ⟨h.val - 128, by omega⟩ := Fin.ext (by show h.val = 128 + (h.val - 128); omega)
    rw [e, ← rightR_emb, Rect.overlay_emb, right_at H]

end Cert.MoeProof

end
-- ==== Proof.Gathers.lean ====
/-
# The reference's two lookups

`probs[n, e]` reads the table at a pair of index words, `expert_W[e]` a whole matrix at one. Where the words hold indices in range
each is read at them.
-/
module

public import proofs.«01_k».proof.Proof.Gen.ReferenceIdeal
public import Idealize.ShloMosaic.Lib.Pointwise

@[expose] public section

noncomputable section

namespace Cert.MoeProof

open Cert.ReferenceIdeal Cert.ReferenceIdeal.Gen

open Idealize.ShloMosaic

theorem word_read (b : ℕ) (hb : b < 256) : (BitVec.ofNat 32 b).toInt.toNat = b := by
  have h : (BitVec.ofNat 32 b).toNat = b := by rw [BitVec.toNat_ofNat]; omega
  rw [BitVec.toInt_eq_toNat_of_lt (by omega), h]; omega

/-- The gate: entry `(n, e)` of the table of probabilities. -/
theorem gather_gate {α : Type} (x : S256x64.Idx → α) (idx : IVec S256x2 32) (n : Fin 256) (e : Fin 64)
    (h0 : idx (ix2 n 0) = BitVec.ofNat 32 n.val) (h1 : idx (ix2 n 1) = BitVec.ofNat 32 e.val) :
    Host.gather gather_S256x64_S256x2_S256_n_01_n_n_01_1_11 x idx (ix1 n) = x (ix2 n e) := by
  unfold Host.gather
  refine congrArg x (funext fun a => Fin.ext ?_)
  match a with
  | ⟨0, _⟩ =>
    show min (idx _).toInt.toNat 255 + 0 + 0 = n.val
    rw [show GatherDims.siIdx gather_S256x64_S256x2_S256_n_01_n_n_01_1_11 (ix1 n) _ = ix2 n 0 from
      funext fun b => Fin.ext (by match b with | ⟨0, _⟩ => rfl | ⟨1, _⟩ => rfl), h0, word_read _ n.isLt]
    omega
  | ⟨1, _⟩ =>
    show min (idx _).toInt.toNat 63 + 0 + 0 = e.val
    rw [show GatherDims.siIdx gather_S256x64_S256x2_S256_n_01_n_n_01_1_11 (ix1 n) _ = ix2 n 1 from
      funext fun b => Fin.ext (by match b with | ⟨0, _⟩ => rfl | ⟨1, _⟩ => rfl), h1, word_read _ (by omega)]
    omega

/-- The expert's matrix: slab `e` of the stack. -/
theorem gather_expert {α : Type} (x : S64x128x256.Idx → α) (idx : IVec S256x1 32) (n : Fin 256) (k : Fin 128) (h : Fin 256) (e : Fin 64)
    (h0 : idx (ix2 n 0) = BitVec.ofNat 32 e.val) :
    Host.gather gather_S64x128x256_S256x1_S256x128x256_12_0_n_n_0_1_1128256 x idx (ix3 n k h) = x (ix3 e k h) := by
  unfold Host.gather
  refine congrArg x (funext fun a => Fin.ext ?_)
  match a with
  | ⟨0, _⟩ =>
    show min (idx _).toInt.toNat 63 + 0 + 0 = e.val
    rw [show GatherDims.siIdx gather_S64x128x256_S256x1_S256x128x256_12_0_n_n_0_1_1128256 (ix3 n k h) _ = ix2 n 0 from
      funext fun b => Fin.ext (by match b with | ⟨0, _⟩ => rfl | ⟨1, _⟩ => rfl), h0, word_read _ (by omega)]
    omega
  | ⟨1, _⟩ => show 0 + 0 + k.val = k.val; omega
  | ⟨2, _⟩ => show 0 + 0 + h.val = h.val; omega

end Cert.MoeProof

end
-- ==== Proof.RefValue.lean ====
/-
# What the reference computes, element by element

The reference's composed term, read at token `n` and column `h`, is the layer (`layerAt`): where the index names an expert its two
lookups read the gate and the matrix of that expert; where it does not the mask takes zero.
-/
module

public import proofs.«01_k».proof.Proof.Gathers
public import proofs.«01_k».proof.Proof.Layer
public import proofs.«01_k».proof.Proof.Gen.ReferenceIdeal.Run

@[expose] public section

noncomputable section

namespace Cert.MoeProof

open Cert.ReferenceIdeal Cert.ReferenceIdeal.Gen

open Idealize.ShloMosaic

set_option maxRecDepth 16384

/-- A word below 64 is not negative, so jnp's wrap of negative indices leaves it; -/
theorem wrap_small (i k : BitVec 32) (hi : i.toNat < 64) : Scalar.select (IntOp.cmpi .slt i 0#32) (IntOp.addi i k) i = i := by
  have h : BitVec.slt i 0#32 = false := by
    rw [BitVec.slt_eq_decide, BitVec.toInt_eq_toNat_of_lt (by omega)]; exact decide_eq_false (by simp)
  show (if BitVec.ofBool (BitVec.slt i 0#32) = 1#1 then _ else i) = i
  rw [h]; rfl

/-- and the mask is set exactly at the words below 64. -/
theorem mask_at (i : BitVec 32) (p : EReal) :
    Scalar.select (IntOp.andi (IntOp.cmpi .sge i 0#32) (IntOp.cmpi .slt i 64#32)) p 0 = if i.toNat < 64 then p else 0 := by
  have hb : ∀ u v : Bool, BitVec.ofBool u &&& BitVec.ofBool v = 1#1 ↔ (u = true ∧ v = true) := by decide
  show (if BitVec.ofBool (BitVec.sle 0#32 i) &&& BitVec.ofBool (BitVec.slt i 64#32) = 1#1 then p else 0) = _
  simp only [hb]
  refine if_congr ?_ rfl rfl
  rw [BitVec.slt_eq_decide, BitVec.sle_eq_decide, decide_eq_true_iff, decide_eq_true_iff, BitVec.toInt_eq_toNat_cond i,
    show (0#32 : BitVec 32).toInt = 0 from rfl, show (64#32 : BitVec 32).toInt = 64 from rfl]
  have := i.isLt
  split_ifs <;> omega

section

variable (x : FVec Ideal S256x128 .bf16) (w : FVec Ideal S128x64 .bf16) (idx : IVec S256x1 32) (W : FVec Ideal S64x128x256 .bf16)
    (sw : FVec Ideal S128x256 .bf16)

/-- The scores, their exponentials, the gates. -/
def refScores : FVec Ideal S256x64 .f32 := Host.dotGeneral dot_S256x128_S128x64_S256x64_1_0_0_1_n_n none (extf .f32 x bitsLt_bf16_f32) (extf .f32 w bitsLt_bf16_f32)
def refExps : FVec Ideal S256x64 .f32 := Host.exp (subf (refScores x w) (broadcastInDim S256x64 ![0, 1] bcast_S256x1_S256x64_0_1 (broadcastInDim S256x1 ![0] bcast_S256_S256x1_0 (Host.reduce FloatOps.maximumf (refScores x w) (constant S_ .f32 0xFF800000#32) reducesTo_S256x64_S256_d1 h_S_))))
def refGates : FVec Ideal S256x64 .f32 := Host.divf (refExps x w) (broadcastInDim S256x64 ![0, 1] bcast_S256x1_S256x64_0_1 (broadcastInDim S256x1 ![0] bcast_S256_S256x1_0 (Host.reduceAdd (refExps x w) (constant S_ .f32 0x00000000#32) reducesTo_S256x64_S256_d1 h_S_)))

/-- The index words the gate is looked up at, and the ones the matrix is. -/
def refPairs : IVec S256x2 32 := concatenate S256x2 1 [⟨S256x1, (broadcastInDim S256x1 ![0] bcast_S256_S256x1_0 (select (cmpi .slt (iotaInDim S256 32 0) (broadcastInDim S256 ![] bcast_S_S256 (constantI S_ 32 0#32))) (addi (iotaInDim S256 32 0) (broadcastInDim S256 ![] bcast_S_S256 (constantI S_ 32 256#32))) (iotaInDim S256 32 0)))⟩, ⟨S256x1, (broadcastInDim S256x1 ![0] bcast_S256_S256x1_0 (select (cmpi .slt (shapeCast S256 idx shapeCasts_S256x1_S256) (broadcastInDim S256 ![] bcast_S_S256 (constantI S_ 32 0#32))) (addi (shapeCast S256 idx shapeCasts_S256x1_S256) (broadcastInDim S256 ![] bcast_S_S256 (constantI S_ 32 64#32))) (shapeCast S256 idx shapeCasts_S256x1_S256)))⟩] concatenates_S256x1_S256x1_S256x2_d1
def refRows : IVec S256x1 32 := broadcastInDim S256x1 ![0] bcast_S256_S256x1_0 (select (cmpi .slt (shapeCast S256 idx shapeCasts_S256x1_S256) (broadcastInDim S256 ![] bcast_S_S256 (constantI S_ 32 0#32))) (addi (shapeCast S256 idx shapeCasts_S256x1_S256) (broadcastInDim S256 ![] bcast_S_S256 (constantI S_ 32 64#32))) (shapeCast S256 idx shapeCasts_S256x1_S256))

/-- The result. -/
def refOut : FVec Ideal S256x256 .f32 := addf (Host.dotGeneral dot_S256x128_S128x256_S256x256_1_0_0_1_n_n none (extf .f32 x bitsLt_bf16_f32) (extf .f32 sw bitsLt_bf16_f32)) (select (broadcastInDim S256x256 ![0, 1] bcast_S256x1_S256x256_0_1 (broadcastInDim S256x1 ![0] bcast_S256_S256x1_0 (andi (cmpi .sge (shapeCast S256 idx shapeCasts_S256x1_S256) (broadcastInDim S256 ![] bcast_S_S256 (constantI S_ 32 0#32))) (cmpi .slt (shapeCast S256 idx shapeCasts_S256x1_S256) (broadcastInDim S256 ![] bcast_S_S256 (constantI S_ 32 64#32)))))) (mulf (broadcastInDim S256x256 ![0, 1] bcast_S256x1_S256x256_0_1 (broadcastInDim S256x1 ![0] bcast_S256_S256x1_0 (Host.gather gather_S256x64_S256x2_S256_n_01_n_n_01_1_11 (refGates x w) (refPairs idx)))) (Host.dotGeneral dot_S256x128_S256x128x256_S256x256_1_1_n_2_0_0 none (extf .f32 x bitsLt_bf16_f32) (Host.gather gather_S64x128x256_S256x1_S256x128x256_12_0_n_n_0_1_1128256 (extf .f32 W bitsLt_bf16_f32) (refRows idx)))) (broadcastInDim S256x256 ![] bcast_S_S256x256 (id (constant S_ .f32 0x00000000#32))))

theorem refScores_at (n : Fin 256) (j : Fin 64) : refScores x w (ix2 n j) = rowDot (fun k => x (ix2 n k)) (fun k j => w (ix2 k j)) j := by
  pointwise [refScores]
  rfl

theorem refExps_at (n : Fin 256) (j : Fin 64) : refExps x w (ix2 n j)
    = Ideal.exp (refScores x w (ix2 n j) - Finset.univ.fold max (Ideal.ofBits .f32 0xFF800000#32) fun k => refScores x w (ix2 n k)) := by
  pointwise [refExps]

theorem refGates_at (n : Fin 256) (j : Fin 64) :
    refGates x w (ix2 n j) = gateOf (rowDot (fun k => x (ix2 n k)) (fun k j => w (ix2 k j))) j := by
  pointwise [refGates]
  simp only [refExps_at, refScores_at]
  rfl

theorem refPairs_row (n : Fin 256) : refPairs idx (ix2 n 0) = BitVec.ofNat 32 n.val := by
  pointwise [refPairs]
  revert n; decide +kernel

theorem refPairs_col (n : Fin 256) (hi : (idx (ix2 n 0)).toNat < 64) : refPairs idx (ix2 n 1) = idx (ix2 n 0) := by
  pointwise [refPairs]
  exact wrap_small _ _ hi

theorem refRows_at (n : Fin 256) (hi : (idx (ix2 n 0)).toNat < 64) : refRows idx (ix2 n 0) = idx (ix2 n 0) := by
  pointwise [refRows]
  exact wrap_small _ _ hi

theorem refOut_at (n h : Fin 256) : refOut x w idx W sw (ix2 n h) = layerAt x w idx W sw n h := by
  pointwise [refOut]
  rw [show id (constant (F := Ideal) S_ .f32 0#32) ix0 = (0 : EReal) from Ideal.ofBits_zero_f32, mask_at]
  unfold layerAt routedOf
  by_cases hi : (idx (ix2 n 0)).toNat < 64
  · have hw : idx (ix2 n 0) = BitVec.ofNat 32 (⟨(idx (ix2 n 0)).toNat, hi⟩ : Fin 64).val := (word_eq ⟨_, hi⟩ _).2 rfl |>.symm
    rw [if_pos hi, dif_pos hi, gather_gate _ _ n ⟨_, hi⟩ (refPairs_row idx n) ((refPairs_col idx n hi).trans hw), refGates_at]
    simp only [gather_expert _ _ n _ h ⟨_, hi⟩ ((refRows_at idx n hi).trans hw)]
    rfl
  · rw [if_neg hi, dif_neg hi]
    rfl

end

end Cert.MoeProof

end
-- ==== Proof.lean ====
/-
# The certificate

The run of the kernel is written once over any float values (`Cert.MoeProof.run_ends`); the printed program and its
idealization have the same text, so both frames are that run. The reference's run is the generated one.
At the ideal values the two results are the same layer, the kernel's by `out_at` and the reference's by `refOut_at`.
-/
module

public import proofs.«01_k».proof.Defs
public import proofs.«01_k».proof.Proof.Ends
public import proofs.«01_k».proof.Proof.Same
public import proofs.«01_k».proof.Proof.KernelValue
public import proofs.«01_k».proof.Proof.RefValue
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

theorem frame_kernel : Cert.quiescent_Kernel := fun m ρ _ =>
  Cert.MoeProof.run_same (F := Bits) m ρ _ ((θ_run Cert.KernelIdeal.defs _ _).mono
    (fun _ h => ⟨fun c => (h.1 c).2, h.2⟩) (Cert.MoeProof.run_ends (F := Bits) m ρ))

theorem frame_ideal : Cert.quiescent_KernelIdeal := fun m ρ _ =>
  (θ_run Cert.KernelIdeal.defs _ _).mono (fun _ h => ⟨fun c => (h.1 c).2, h.2⟩) (Cert.MoeProof.run_ends (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := by
  intro m g m' g' _ hin
  refine ⟨Cert.MoeProof.refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)),
    (θ_run Cert.KernelIdeal.defs _ _).mono (fun r h c => ⟨(h.1 c).1.trans ?_, (h.1 c).2⟩) (Cert.MoeProof.run_ends (F := Ideal) m g),
    (θ_run Cert.ReferenceIdeal.defs _ _).mono (fun r h => h 0) (Cert.ReferenceIdeal.Value.run (F := Ideal) m' g')⟩
  have H := Cert.MoeProof.Holds.mk (m := m) (fun c => (Cert.MoeProof.X0_eq m c).trans (hin c).1)
    (fun c => (Cert.MoeProof.X1_eq m c).trans (hin c).2.1) (fun c => (Cert.MoeProof.X2_eq m c).trans (hin c).2.2.1)
    (fun c => (Cert.MoeProof.X3_eq m c).trans (hin c).2.2.2.1) (fun c => (Cert.MoeProof.X4_eq m c).trans (hin c).2.2.2.2)
  funext i
  obtain ⟨n, k, rfl⟩ : ∃ n k : Fin 256, i = ix2 n k := ⟨i 0, i 1, eq_ix2 i⟩
  exact (Cert.MoeProof.out_at H c n k).trans (Cert.MoeProof.refOut_at _ _ _ _ _ n k).symm

theorem claim : Cert.Claim := ⟨Cert.Kernel.Gen.facts, Cert.KernelIdeal.Gen.facts, Cert.ReferenceIdeal.Gen.facts,
  frame_kernel, frame_ideal, frame_reference, trivial, algebraic⟩

end Cert.Proof

end
